-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4096x2048 : Shape := ⟨2, ![4096, 2048]⟩
abbrev S2x512x2048 : Shape := ⟨3, ![2, 512, 2048]⟩
abbrev S14 : Shape := ⟨1, ![14]⟩
abbrev S_ : Shape := ⟨0, ![]⟩
abbrev S512x512 : Shape := ⟨2, ![512, 512]⟩
abbrev S1x512x2048 : Shape := ⟨3, ![1, 512, 2048]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .local _ .vmem, ⟨0, _⟩ => ⟨S4096x512, .bf16⟩
  | .local _ .vmem, ⟨1, _⟩ => ⟨S512x2048, .bf16⟩
  | .local _ .vmem, ⟨2, _⟩ => ⟨S4096x2048, .f32⟩
  | .local _ .vmem, ⟨3, _⟩ => ⟨S2x512x2048, .bf16⟩
  | .local _ .vmem, ⟨4, _⟩ => ⟨S2x512x2048, .bf16⟩
  | .local _ .vmem, ⟨5, _⟩ => ⟨S2x512x2048, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 2 31 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c0_i32_54 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_53 : BitVec 32 := 8#32
  let v65 : BitVec 32 := Scalar.addi v2 c8_i32_53
  let v66 : BitVec 32 := Scalar.subi v65 c0_i32_54
  let c8_i32_55 : BitVec 32 := 8#32
  let c0_i32_56 : BitVec 32 := 0#32
  let v67 : BitVec 1 := Scalar.cmpi .eq c8_i32_55 c0_i32_56
  let c1_i32_57 : BitVec 32 := 1#32
  let v68 : BitVec 32 := Scalar.select v67 c1_i32_57 c8_i32_55
  let v69 : BitVec 32 := Scalar.remsi v66 v68
  let c0_i32_59 : BitVec 32 := 0#32
  let v71 : BitVec 1 := Scalar.cmpi .slt v69 c0_i32_59
  let c0_i32_60 : BitVec 32 := 0#32
  let v72 : BitVec 1 := Scalar.cmpi .slt v68 c0_i32_60
  let v73 : BitVec 1 := Scalar.xori v71 v72
  let c0_i32_58 : BitVec 32 := 0#32
  let v70 : BitVec 1 := Scalar.cmpi .ne v69 c0_i32_58
  let v74 : BitVec 1 := Scalar.andi v73 v70
  let v75 : BitVec 32 := Scalar.addi v69 v68
  let v76 : BitVec 32 := Scalar.select v74 v75 v69
  let c512_i32 : BitVec 32 := 512#32
  let v77 : BitVec 32 := Scalar.muli v76 c512_i32
  let v78 : Index := Scalar.indexCast v77
  let c0_61 : Index := 0#32
  ![v78.toNat, 0]
def k0_dev3 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_69 : BitVec 32 := 1#32
  let v85 : BitVec 32 := Scalar.muli v25 c1_i32_69
  let v86 : BitVec 32 := Scalar.addi c0_i32_70 v85
  v86.toNat
def k0_off2 (d0 : Dev nD) (c0_i32_96 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_94 : BitVec 32 := 8#32
  let v109 : BitVec 32 := Scalar.addi v2 c8_i32_94
  let c1_i32_95 : BitVec 32 := 1#32
  let v110 : BitVec 32 := Scalar.subi v109 c1_i32_95
  let v111 : BitVec 32 := Scalar.subi v110 c0_i32_96
  let c8_i32_97 : BitVec 32 := 8#32
  let c0_i32_98 : BitVec 32 := 0#32
  let v112 : BitVec 1 := Scalar.cmpi .eq c8_i32_97 c0_i32_98
  let c1_i32_99 : BitVec 32 := 1#32
  let v113 : BitVec 32 := Scalar.select v112 c1_i32_99 c8_i32_97
  let v114 : BitVec 32 := Scalar.remsi v111 v113
  let c0_i32_101 : BitVec 32 := 0#32
  let v116 : BitVec 1 := Scalar.cmpi .slt v114 c0_i32_101
  let c0_i32_102 : BitVec 32 := 0#32
  let v117 : BitVec 1 := Scalar.cmpi .slt v113 c0_i32_102
  let v118 : BitVec 1 := Scalar.xori v116 v117
  let c0_i32_100 : BitVec 32 := 0#32
  let v115 : BitVec 1 := Scalar.cmpi .ne v114 c0_i32_100
  let v119 : BitVec 1 := Scalar.andi v118 v115
  let v120 : BitVec 32 := Scalar.addi v114 v113
  let v121 : BitVec 32 := Scalar.select v119 v120 v114
  let c512_i32_103 : BitVec 32 := 512#32
  let v122 : BitVec 32 := Scalar.muli v121 c512_i32_103
  let v123 : Index := Scalar.indexCast v122
  let c0_104 : Index := 0#32
  ![v123.toNat, 0]
def k0_dev4 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_111 : BitVec 32 := 1#32
  let v133 : BitVec 32 := Scalar.muli v14 c1_i32_111
  let v134 : BitVec 32 := Scalar.addi c0_i32_112 v133
  v134.toNat
def k0_dev5 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_129 : BitVec 32 := 1#32
  let v155 : BitVec 32 := Scalar.muli v25 c1_i32_129
  let v156 : BitVec 32 := Scalar.addi c0_i32_130 v155
  v156.toNat
def k0_dev6 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_171 : BitVec 32 := 1#32
  let v203 : BitVec 32 := Scalar.muli v14 c1_i32_171
  let v204 : BitVec 32 := Scalar.addi c0_i32_172 v203
  v204.toNat
def k0_dev7 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_192 : BitVec 32 := 1#32
  let v225 : BitVec 32 := Scalar.muli v25 c1_i32_192
  let v226 : BitVec 32 := Scalar.addi c0_i32_193 v225
  v226.toNat
def k0_dev8 (d0 : Dev nD) : Nat :=
  let c0_i32_235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_234 : BitVec 32 := 1#32
  let v273 : BitVec 32 := Scalar.muli v14 c1_i32_234
  let v274 : BitVec 32 := Scalar.addi c0_i32_235 v273
  v274.toNat
def k0_dev9 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_254 : BitVec 32 := 1#32
  let v295 : BitVec 32 := Scalar.muli v25 c1_i32_254
  let v296 : BitVec 32 := Scalar.addi c0_i32_255 v295
  v296.toNat
def k0_dev10 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_296 : BitVec 32 := 1#32
  let v343 : BitVec 32 := Scalar.muli v14 c1_i32_296
  let v344 : BitVec 32 := Scalar.addi c0_i32_297 v343
  v344.toNat
def k0_dev11 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_316 : BitVec 32 := 1#32
  let v365 : BitVec 32 := Scalar.muli v25 c1_i32_316
  let v366 : BitVec 32 := Scalar.addi c0_i32_317 v365
  v366.toNat
def k0_dev12 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_358 : BitVec 32 := 1#32
  let v413 : BitVec 32 := Scalar.muli v14 c1_i32_358
  let v414 : BitVec 32 := Scalar.addi c0_i32_359 v413
  v414.toNat
def k0_dev13 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_378 : BitVec 32 := 1#32
  let v435 : BitVec 32 := Scalar.muli v25 c1_i32_378
  let v436 : BitVec 32 := Scalar.addi c0_i32_379 v435
  v436.toNat
def k0_dev14 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_437 : BitVec 32 := 1#32
  let v503 : BitVec 32 := Scalar.muli v25 c1_i32_437
  let v504 : BitVec 32 := Scalar.addi c0_i32_438 v503
  v504.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_478 : BitVec 32 := 1#32
  let v551 : BitVec 32 := Scalar.addi v2 c1_i32_478
  let c8_i32_479 : BitVec 32 := 8#32
  let c0_i32_480 : BitVec 32 := 0#32
  let v552 : BitVec 1 := Scalar.cmpi .eq c8_i32_479 c0_i32_480
  let c1_i32_481 : BitVec 32 := 1#32
  let v553 : BitVec 32 := Scalar.select v552 c1_i32_481 c8_i32_479
  let v554 : BitVec 32 := Scalar.remsi v551 v553
  let c0_i32_483 : BitVec 32 := 0#32
  let v556 : BitVec 1 := Scalar.cmpi .slt v554 c0_i32_483
  let c0_i32_484 : BitVec 32 := 0#32
  let v557 : BitVec 1 := Scalar.cmpi .slt v553 c0_i32_484
  let v558 : BitVec 1 := Scalar.xori v556 v557
  let c0_i32_482 : BitVec 32 := 0#32
  let v555 : BitVec 1 := Scalar.cmpi .ne v554 c0_i32_482
  let v559 : BitVec 1 := Scalar.andi v558 v555
  let v560 : BitVec 32 := Scalar.addi v554 v553
  let v561 : BitVec 32 := Scalar.select v559 v560 v554
  let c512_i32_485 : BitVec 32 := 512#32
  let v562 : BitVec 32 := Scalar.muli v561 c512_i32_485
  let v563 : Index := Scalar.indexCast v562
  let c0_486 : Index := 0#32
  ![v563.toNat, 0]
def k0_dev15 (d0 : Dev nD) : Nat :=
  let c0_i32_497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_496 : BitVec 32 := 1#32
  let v575 : BitVec 32 := Scalar.muli v25 c1_i32_496
  let v576 : BitVec 32 := Scalar.addi c0_i32_497 v575
  v576.toNat
def k0_dev16 (d0 : Dev nD) : Nat :=
  let c0_i32_539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_538 : BitVec 32 := 1#32
  let v617 : BitVec 32 := Scalar.muli v25 c1_i32_538
  let v618 : BitVec 32 := Scalar.addi c0_i32_539 v617
  v618.toNat
def k0_dev17 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_577 : BitVec 32 := 1#32
  let v659 : BitVec 32 := Scalar.muli v14 c1_i32_577
  let v660 : BitVec 32 := Scalar.addi c0_i32_578 v659
  v660.toNat
def k0_dev18 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_584 : BitVec 32 := 1#32
  let v661 : BitVec 32 := Scalar.muli v25 c1_i32_584
  let v662 : BitVec 32 := Scalar.addi c0_i32_585 v661
  v662.toNat
def k0_dev19 (d0 : Dev nD) : Nat :=
  let c0_i32_624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_623 : BitVec 32 := 1#32
  let v703 : BitVec 32 := Scalar.muli v14 c1_i32_623
  let v704 : BitVec 32 := Scalar.addi c0_i32_624 v703
  v704.toNat
def k0_dev20 (d0 : Dev nD) : Nat :=
  let c0_i32_631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_630 : BitVec 32 := 1#32
  let v705 : BitVec 32 := Scalar.muli v25 c1_i32_630
  let v706 : BitVec 32 := Scalar.addi c0_i32_631 v705
  v706.toNat
def k0_dev21 (d0 : Dev nD) : Nat :=
  let c0_i32_670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_669 : BitVec 32 := 1#32
  let v747 : BitVec 32 := Scalar.muli v14 c1_i32_669
  let v748 : BitVec 32 := Scalar.addi c0_i32_670 v747
  v748.toNat
def k0_dev22 (d0 : Dev nD) : Nat :=
  let c0_i32_677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_676 : BitVec 32 := 1#32
  let v749 : BitVec 32 := Scalar.muli v25 c1_i32_676
  let v750 : BitVec 32 := Scalar.addi c0_i32_677 v749
  v750.toNat
def k0_dev23 (d0 : Dev nD) : Nat :=
  let c0_i32_716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_715 : BitVec 32 := 1#32
  let v791 : BitVec 32 := Scalar.muli v14 c1_i32_715
  let v792 : BitVec 32 := Scalar.addi c0_i32_716 v791
  v792.toNat
def k0_dev24 (d0 : Dev nD) : Nat :=
  let c0_i32_723 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_722 : BitVec 32 := 1#32
  let v793 : BitVec 32 := Scalar.muli v25 c1_i32_722
  let v794 : BitVec 32 := Scalar.addi c0_i32_723 v793
  v794.toNat
def k0_dev25 (d0 : Dev nD) : Nat :=
  let c0_i32_762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_761 : BitVec 32 := 1#32
  let v835 : BitVec 32 := Scalar.muli v14 c1_i32_761
  let v836 : BitVec 32 := Scalar.addi c0_i32_762 v835
  v836.toNat
def k0_dev26 (d0 : Dev nD) : Nat :=
  let c0_i32_769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_768 : BitVec 32 := 1#32
  let v837 : BitVec 32 := Scalar.muli v25 c1_i32_768
  let v838 : BitVec 32 := Scalar.addi c0_i32_769 v837
  v838.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Program.lean ====
/-
The kernel's body as a short program: the two barrier signals and the barrier wait, eight block products, seven
steps of the reduce-scatter, the rectifier, and seven steps of the all-gather, each step written once over its number.
`body_eq` says that this is the printed body.
-/
module

public import proofs.«01_k».proof.Proof.Gen.KernelIdeal
public import proofs.«01_k».proof.Proof.Gen.KernelIdeal.Skeleton
public import Idealize.ShloMosaic.Lib.Tactic

@[expose] public section

set_option maxRecDepth 16384

noncomputable section

namespace Cert.Ring

open Cert.KernelIdeal Cert.KernelIdeal.Gen
open Idealize.ShloMosaic Idealize.ShloMosaic.TcCoe
open Idealize.SL.Sem

variable {F : FTy → Type} [FloatOps F]

/-! ## Buffers, slots and semaphores -/

/-- The staged operands, the staged result, and the three two-slot scratch buffers. -/
abbrev xM : Memref sig .tc .vmem S4096x512 .bf16 := Memref.whole cc0_stg0_0
abbrev wM : Memref sig .tc .vmem S512x2048 .bf16 := Memref.whole cc0_stg1_0
abbrev oM : Memref sig .tc .vmem S4096x2048 .f32 := Memref.whole cc0_stg2_0
abbrev stM : Memref sig .tc .vmem S2x512x2048 .bf16 := Memref.whole cc0_scratch0
abbrev rsM : Memref sig .tc .vmem S2x512x2048 .bf16 := Memref.whole cc0_scratch1
abbrev agM : Memref sig .tc .vmem S2x512x2048 .bf16 := Memref.whole cc0_scratch2

/-- The slot that message `h` of a phase uses. -/
abbrev par (h : ℕ) : Fin 2 := ⟨h % 2, Nat.mod_lt _ (by decide)⟩

theorem sr_inb (b : Fin 2) : ∀ a, (![b.val, 0, 0] : Fin 3 → ℕ) a + S1x512x2048.size a ≤ S2x512x2048.size a := by
  revert b; decide
abbrev sr (b : Fin 2) : Rect S2x512x2048 := Rect.unit (s := S2x512x2048) ![b.val, 0, 0] S1x512x2048.size (sr_inb b)
theorem sr_words (b : Fin 2) : (sr b).WholeWords (EltTy.packing .bf16) := by
  fin_cases b
  · exact wordsbf16_S2x512x2048_S1x512x2048_0_0_0
  · exact wordsbf16_S2x512x2048_S1x512x2048_1_0_0
theorem sr_packed (b : Fin 2) : (sr b).PackedRows (EltTy.packing .bf16) := by
  fin_cases b
  · exact packedbf16_S2x512x2048_S1x512x2048_0_0_0
  · exact packedbf16_S2x512x2048_S1x512x2048_1_0_0

/-- Slot `b` of a two-slot buffer, with its leading axis and without. -/
abbrev slab (M : Memref sig .tc .vmem S2x512x2048 .bf16) (b : Fin 2) : Memref sig .tc .vmem S1x512x2048 .bf16 :=
  M.slice (sr b) (fun _ => rfl)
abbrev slot (M : Memref sig .tc .vmem S2x512x2048 .bf16) (b : Fin 2) : Memref sig .tc .vmem S512x2048 .bf16 :=
  (slab M b).squeeze S512x2048 squeezes_S1x512x2048_S512x2048

/-- The rows of the result that RS step `h` sends (and AG step `h` stores), that RS step `h` adds to, and the device's own. -/
abbrev or1 (d : Dev nD) (h : Fin 7) : Rect S4096x2048 :=
  Rect.unit (s := S4096x2048) (k0_off1 d (BitVec.ofNat 32 h.val)) S512x2048.size (k0_off1_inb d h)
abbrev or2 (d : Dev nD) (h : Fin 7) : Rect S4096x2048 :=
  Rect.unit (s := S4096x2048) (k0_off2 d (BitVec.ofNat 32 h.val)) S512x2048.size (k0_off2_inb d h)
abbrev or3 (d : Dev nD) : Rect S4096x2048 := Rect.unit (s := S4096x2048) (k0_off3 d) S512x2048.size (k0_off3_inb d)

theorem xr_inb (r : Fin 8) : ∀ a, (![512 * r.val, 0] : Fin 2 → ℕ) a + S512x512.size a ≤ S4096x512.size a := by
  revert r; decide
theorem pr_inb (r : Fin 8) : ∀ a, (![512 * r.val, 0] : Fin 2 → ℕ) a + S512x2048.size a ≤ S4096x2048.size a := by
  revert r; decide
abbrev xr (r : Fin 8) : Rect S4096x512 := Rect.unit (s := S4096x512) ![512 * r.val, 0] S512x512.size (xr_inb r)
abbrev pr (r : Fin 8) : Rect S4096x2048 := Rect.unit (s := S4096x2048) ![512 * r.val, 0] S512x2048.size (pr_inb r)
abbrev wr : Rect S512x2048 := Rect.unit (s := S512x2048) ![0, 0] S512x2048.size inb_S512x2048_S512x2048_0_0

/-- The semaphores: the barrier, the credits, and per message (RS 0–6, AG 7–13) a send and a receive semaphore. -/
abbrev barS : Sem sig := (SemArray.scalar (sig.barrier 0 rfl) : Sems sig S_).sem
abbrev crdS : Sem sig := (cc0_scratch5 : Sems sig S_).sem
def sndS (s : ℕ) : DmaSem sig := ⟨3 + s % 14, by have := Nat.mod_lt s (show 0 < 14 by decide); show _ < 31; omega⟩
def rcvS (s : ℕ) : DmaSem sig := ⟨17 + s % 14, by have := Nat.mod_lt s (show 0 < 14 by decide); show _ < 31; omega⟩

/-- The neighbours as the kernel computes them. -/
abbrev devR (d : Dev nD) : Dev nD := ⟨k0_dev3 d, k0_dev3_lt d⟩
abbrev devL (d : Dev nD) : Dev nD := ⟨k0_dev4 d, k0_dev4_lt d⟩

/-! ## The steps -/

/-- A program of the body. -/
abbrev P (F : FTy → Type) [FloatOps F] := Prog (TpuEff nD τ sig (Elt F) Λ₀ .tc) PUnit

/-- Load rows of the result; store rows of the result (the printed store loads the rows first and drops what it read). -/
abbrev loadO (r : Rect S4096x2048) (hr : 0 < r.shape.numel) (k : Vec F r.shape .f32 → P F) : P F :=
  Prog.lift (.load oM r.toLoadRect (View.loadsAt_vmem hr)) >>= k
abbrev storeO (r : Rect S4096x2048) (hr : 0 < r.shape.numel) (v : Vec F r.shape .f32) (k : P F) : P F :=
  Prog.lift (.load oM r.toLoadRect (View.loadsAt_vmem hr)) >>= fun _ =>
  Prog.lift (.store oM r v Finset.univ (View.stores_vmem_bits_univ hr rfl) (.inl rfl)) >>= fun _ => k
/-- Load a slot; store a slot. -/
abbrev loadS (M : Memref sig .tc .vmem S2x512x2048 .bf16) (b : Fin 2) (k : Vec F S1x512x2048 .bf16 → P F) : P F :=
  Prog.lift (.load M (sr b).toLoadRect (View.loadsAt_vmem h_S1x512x2048)) >>= k
abbrev storeS (M : Memref sig .tc .vmem S2x512x2048 .bf16) (hM : M.IsWhole) (b : Fin 2) (v : Vec F S1x512x2048 .bf16) (k : P F) : P F :=
  Prog.lift (.load M (sr b).toLoadRect (View.loadsAt_vmem h_S1x512x2048)) >>= fun _ =>
  Prog.lift (.store M (sr b) v Finset.univ (View.stores_vmem h_S1x512x2048 (hM.storeExact_slice rfl _ (sr_packed b)) (fun _ => rfl)) (.inl rfl))
    >>= fun _ => k

/-- Message `s`: a copy of slot `b` of `A` to slot `b'` of the right neighbour's `B`, then both waits. -/
def comm (d : Dev nD) (s : ℕ) (A B : Memref sig .tc .vmem S2x512x2048 .bf16) (hA : A.IsWhole) (hB : B.IsWhole) (b b' : Fin 2) (k : P F) : P F :=
  Prog.lift (.enqueueDma (slot A b) (.remote (Dev.tc (devR d)) (slot B b') (.dma (sndS s))) (.dma (rcvS s))
      ((hA.wordExact_slice rfl _ (sr_words b)).reshape _ _) ((hB.wordExact_slice rfl _ (sr_words b')).reshape _ _)
      ⟨⟨rfl, Or.inl rfl⟩, trivial⟩) >>= fun _ =>
  Prog.lift (.waitDma2 (sndS s) (slot B b') (slot A b) ((hB.wordExact_slice rfl _ (sr_words b')).reshape _ _)
      ((hA.wordExact_slice rfl _ (sr_words b)).reshape _ _)) >>= fun _ =>
  Prog.lift (.waitDma2 (rcvS s) (slot A b) (slot B b') ((hA.wordExact_slice rfl _ (sr_words b)).reshape _ _)
      ((hB.wordExact_slice rfl _ (sr_words b')).reshape _ _)) >>= fun _ => k

/-- Take a credit; give the left neighbour a credit. -/
def takeCredit (k : P F) : P F := semWaitWord crdS 1#32 >>= fun _ => k
def giveCredit (d : Dev nD) (k : P F) : P F := semSignalWord (devL d) crdS 1#32 >>= fun _ => k

abbrev wholeOf (b : Ref sig .tc) : (Memref.whole b).IsWhole := Memref.isWhole_whole b

/-- Reduce-scatter step `h`. -/
def rsStep (d : Dev nD) (h : Fin 7) (k : P F) : P F :=
  loadO (or1 d h) h_S512x2048 fun a =>
  storeS stM (wholeOf _) (par h) (k0_pay11 a) <|
  (if 2 ≤ h.val then takeCredit else id) <|
  comm d h.val stM rsM (wholeOf _) (wholeOf _) (par h) (par h) <|
  loadO (or2 d h) h_S512x2048 fun a =>
  loadS rsM (par h) fun r =>
  storeO (or2 d h) h_S512x2048 (k0_pay12 a r) <|
  (if h.val ≤ 4 then giveCredit d else id) k

/-- The rectifier and the first all-gather step. -/
def agFirst (d : Dev nD) (k : P F) : P F :=
  loadO (or3 d) h_S512x2048 fun a =>
  storeO (or3 d) h_S512x2048 (k0_pay27 a) <|
  storeS stM (wholeOf _) 0 (k0_pay29 (k0_pay28 a)) <|
  comm d 7 stM agM (wholeOf _) (wholeOf _) 0 0 <|
  loadS agM 0 fun r =>
  storeO (or1 d 0) h_S512x2048 (k0_pay30 r) k

/-- All-gather step `h + 1`. -/
def agStep (d : Dev nD) (h : Fin 6) (k : P F) : P F :=
  (if 1 ≤ h.val then takeCredit else id) <|
  comm d (8 + h.val) agM agM (wholeOf _) (wholeOf _) (par h) (par (h + 1)) <|
  loadS agM (par (h + 1)) fun r =>
  storeO (or1 d h.succ) h_S512x2048 (k0_pay30 r) <|
  (if h.val ≤ 4 then giveCredit d else id) k

/-- Block product `r`. -/
def prodStep (w : Vec F S512x2048 .bf16) (r : Fin 8) (k : P F) : P F :=
  Prog.lift (.load xM (xr r).toLoadRect (View.loadsAt_vmem h_S512x512)) >>= fun v =>
  storeO (pr r) h_S512x2048 (k0_pay3 w v) k

/-- The handshake: both neighbours' barrier, left first, then the wait for both. -/
def greet (d : Dev nD) (k : P F) : P F :=
  semSignalWord (⟨k0_dev1 d, k0_dev1_lt d⟩ : Dev nD) barS 1#32 >>= fun _ =>
  semSignalWord (⟨k0_dev2 d, k0_dev2_lt d⟩ : Dev nD) barS 1#32 >>= fun _ =>
  semWaitWord barS 2#32 >>= fun _ => k

def products (k : P F) : P F :=
  Prog.lift (.load wM wr.toLoadRect (View.loadsAt_vmem h_S512x2048)) >>= fun w =>
  prodStep w 0 <| prodStep w 1 <| prodStep w 2 <| prodStep w 3 <| prodStep w 4 <| prodStep w 5 <| prodStep w 6 <| prodStep w 7 k

def reduce (d : Dev nD) (k : P F) : P F :=
  rsStep d 0 <| rsStep d 1 <| rsStep d 2 <| rsStep d 3 <| rsStep d 4 <| rsStep d 5 <| rsStep d 6 k

def gather (d : Dev nD) (k : P F) : P F :=
  agFirst d <| agStep d 0 <| agStep d 1 <| agStep d 2 <| agStep d 3 <| agStep d 4 <| agStep d 5 k

def body : P F :=
  Prog.lift .deviceId >>= fun d => greet d <| products <| reduce d <| gather d <| pure ⟨⟩

set_option maxRecDepth 65536 in
set_option maxHeartbeats 4000000 in
theorem body_eq :
    cc0_body (F := F) xM (wholeOf _) wM (wholeOf _) oM (wholeOf _) stM (wholeOf _) rsM (wholeOf _) agM (wholeOf _)
      cc0_scratch3 cc0_scratch4 cc0_scratch5 = body := by
  rw [cc0_body_eq_skeleton]
  rfl

end Cert.Ring

end
-- ==== Proof.Contents.lean ====
/-
The ring of eight devices, the row blocks of the result buffer, and the contents that the kernel computes: each
device's products, the partial sums that travel in the reduce-scatter, and the blocks that travel in the all-gather.
-/
module

public import proofs.«01_k».proof.Proof.Program
public import Idealize.ShloMosaic.Lib.Exec

@[expose] public section

set_option maxRecDepth 16384

noncomputable section

namespace Cert.Ring

open Cert.KernelIdeal Cert.KernelIdeal.Gen
open Idealize.ShloMosaic Idealize.ShloMosaic.TcCoe
open Idealize.SL.Sem

variable {F : FTy → Type} [FloatOps F]

/-! ## The ring -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩
set_option backward.proofsInPublic true in
/-- The device (and the row block) `h` places before `c`. -/
def back (c : Dev nD) (h : ℕ) : Dev nD := ⟨(c.val + 7 * h) % 8, Nat.mod_lt _ (by decide)⟩

theorem prv_nxt (c : Dev nD) : prv (nxt c) = c := by revert c; decide
theorem nxt_prv (c : Dev nD) : nxt (prv c) = c := by revert c; decide
def ring : Dev nD ≃ Dev nD := ⟨nxt, prv, prv_nxt, nxt_prv⟩

theorem back_zero (c : Dev nD) : back c 0 = c := by revert c; decide
theorem back_seven (c : Dev nD) : back c 7 = nxt c := by revert c; decide
theorem back_prv (c : Dev nD) (h : ℕ) : back (prv c) h = back c (h + 1) := by
  apply Fin.ext; simp only [back, prv]; omega
theorem back_succ (c : Dev nD) (h : ℕ) : back c (h + 1) = prv (back c h) := by
  apply Fin.ext; simp only [back, prv]; omega
theorem back_inj (c : Dev nD) (h h' : ℕ) (hh : h < 8) (hh' : h' < 8) (he : back c h = back c h') : h = h' := by
  have := congrArg Fin.val he; simp only [back] at this; omega

theorem devR_eq (c : Dev nD) : devR c = nxt c := by revert c; decide +kernel
theorem devL_eq (c : Dev nD) : devL c = prv c := by revert c; decide +kernel
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel

theorem off1_eq (c : Dev nD) (h : Fin 7) : k0_off1 c (BitVec.ofNat 32 h.val) = ![512 * (back c h.val).val, 0] := by
  revert c h; decide +kernel
theorem off2_eq (c : Dev nD) (h : Fin 7) : k0_off2 c (BitVec.ofNat 32 h.val) = ![512 * (back c (h.val + 1)).val, 0] := by
  revert c h; decide +kernel
theorem off3_eq (c : Dev nD) : k0_off3 c = ![512 * (nxt c).val, 0] := by revert c; decide +kernel

/-! ## A result buffer given by its eight row blocks -/

/-- The row blocks of a result. -/
abbrev Rows (F : FTy → Type) [FloatOps F] : Type := Fin 8 → Vec F S512x2048 .f32

set_option backward.proofsInPublic true in
def inRow (i : S4096x2048.Idx) : Fin 8 := ⟨(i 0).val / 512, by have h : (i 0).val < 4096 := (i 0).isLt; omega⟩
set_option backward.proofsInPublic true in
def inBlk (i : S4096x2048.Idx) : S512x2048.Idx := fun a => match a with
  | ⟨0, _⟩ => ⟨(i 0).val % 512, Nat.mod_lt _ (by decide)⟩
  | ⟨1, _⟩ => i 1

/-- The buffer whose row block `b` is `g b`. -/
def asm (g : Rows F) : (cc0_stg2_0 : Ref sig .tc).ty.Contents (Elt F) := fun i => g (inRow i) (inBlk i)

theorem pr_emb_row (b : Fin 8) (x : (pr b).shape.Idx) : inRow ((pr b).emb x) = b := by
  apply Fin.ext
  show (512 * b.val + 1 * (x 0).val) / 512 = b.val
  have h : (x 0).val < 512 := (x 0).isLt
  omega
theorem pr_emb_blk (b : Fin 8) (x : (pr b).shape.Idx) : inBlk ((pr b).emb x) = x := by
  funext a; apply Fin.ext
  fin_cases a
  · show (512 * b.val + 1 * (x 0).val) % 512 = (x 0).val
    have h : (x 0).val < 512 := (x 0).isLt
    omega
  · show 0 + 1 * (x 1).val = (x 1).val
    omega
theorem pr_emb_of (i : S4096x2048.Idx) : (pr (inRow i)).emb (inBlk i) = i := by
  funext a; apply Fin.ext
  fin_cases a
  · show 512 * ((i 0).val / 512) + 1 * ((i 0).val % 512) = (i 0).val
    omega
  · show 0 + 1 * (i 1).val = (i 1).val
    omega

/-- Every result buffer is given by its row blocks. -/
theorem asm_surj (f : (cc0_stg2_0 : Ref sig .tc).ty.Contents (Elt F)) :
    f = asm (F := F) (fun b x => f ((pr b).emb x)) := by
  funext i
  show f i = f ((pr (inRow i)).emb (inBlk i))
  rw [pr_emb_of]

theorem read_asm (b : Fin 8) (g : Rows F) : oM.view.readAt (Elt F) (pr b).toLoadRect (asm g) = g b := by
  funext x
  show asm g ((pr b).emb x) = g b x
  unfold asm; rw [pr_emb_row, pr_emb_blk]

theorem write_asm (b : Fin 8) (g : Rows F) (w : Vec F S512x2048 .f32) :
    (oM.access (pr b) : View sig .tc _ _ _).write (Elt F) (asm g) w Finset.univ = asm (Function.update g b w) := by
  funext i
  by_cases h : inRow i = b
  · have hi := View.write_emb_of_mem (Val := Elt F) (v := (oM.access (pr b) : View sig .tc _ _ _)) (asm g) w (Finset.mem_univ (inBlk i))
    have he : (oM.access (pr b) : View sig .tc _ _ _).emb (inBlk i) = i := h ▸ pr_emb_of i
    rw [he] at hi
    rw [hi]; unfold asm; rw [h, Function.update_self]; rfl
  · rw [View.write_of_not_mem]
    · unfold asm; rw [Function.update_of_ne h]
    · intro hm
      obtain ⟨x, -, hx⟩ := Finset.mem_map.mp hm
      exact h (by rw [← hx]; exact pr_emb_row b x)

/-- The same through a rectangle whose offsets are those of block `b`. -/
theorem read_asm_at {off : Fin 2 → ℕ} (inb : ∀ a, off a + S512x2048.size a ≤ S4096x2048.size a) (b : Fin 8) (h : off = ![512 * b.val, 0]) (g : Rows F) :
    oM.view.readAt (Elt F) (Rect.unit (s := S4096x2048) off S512x2048.size inb).toLoadRect (asm g) = g b := by
  subst h; exact read_asm b g
theorem write_asm_at {off : Fin 2 → ℕ} (inb : ∀ a, off a + S512x2048.size a ≤ S4096x2048.size a) (b : Fin 8) (h : off = ![512 * b.val, 0]) (g : Rows F)
    (w : Vec F S512x2048 .f32) :
    (oM.access (Rect.unit (s := S4096x2048) off S512x2048.size inb) : View sig .tc _ _ _).write (Elt F) (asm g) w Finset.univ
      = asm (Function.update g b w) := by
  subst h; exact write_asm b g w

/-! ## What the kernel computes, over every device's blocks of the operands -/

section Values

variable (X : Dev nD → Vec F S4096x512 .bf16) (Wt : Dev nD → Vec F S512x2048 .bf16)

/-- Device `d`'s product for row block `r`. -/
def prod (d : Dev nD) (r : Fin 8) : Vec F S512x2048 .f32 :=
  k0_pay3 (Wt d) (xM.view.readAt (Elt F) (xr r).toLoadRect (X d))

/-- What device `c` sends at reduce-scatter step `h`: the partial sum for row block `back c h`. -/
def msgRS : ℕ → Dev nD → Vec F S1x512x2048 .bf16
  | 0, c => k0_pay11 (prod X Wt c (back c 0))
  | h + 1, c => k0_pay11 (k0_pay12 (prod X Wt c (back c (h + 1))) (msgRS h (prv c)))

/-- The result's row blocks before reduce-scatter step `n`: the blocks `1, …, n` places back hold partial sums. -/
def outRS (c : Dev nD) : ℕ → Rows F
  | 0 => prod X Wt c
  | h + 1 => Function.update (outRS c h) (back c (h + 1)) (k0_pay12 (prod X Wt c (back c (h + 1))) (msgRS X Wt h (prv c)))

theorem outRS_far (c : Dev nD) (n j : ℕ) (hn7 : n ≤ 7) (hj : j < 8) (hn : j = 0 ∨ n < j) :
    outRS X Wt c n (back c j) = prod X Wt c (back c j) := by
  induction n with
  | zero => rfl
  | succ n ih =>
    rw [outRS, Function.update_of_ne, ih (by omega) (by omega)]
    intro he; have := back_inj c _ _ hj (by omega) he; omega

theorem outRS_step (c : Dev nD) (h : ℕ) (hh : h < 7) :
    outRS X Wt c (h + 1)
      = Function.update (outRS X Wt c h) (back c (h + 1)) (k0_pay12 (outRS X Wt c h (back c (h + 1))) (msgRS X Wt h (prv c))) := by
  rw [outRS_far X Wt c h (h + 1) (by omega) (by omega) (by omega)]; rfl

theorem msgRS_eq (c : Dev nD) (h : ℕ) : k0_pay11 (outRS X Wt c h (back c h)) = msgRS X Wt h c := by
  cases h with
  | zero => rfl
  | succ h => rw [outRS, Function.update_self]; rfl

/-- Device `c`'s own row block of the result, and the message that carries it round. -/
def red (c : Dev nD) : Vec F S512x2048 .f32 := k0_pay27 (outRS X Wt c 7 (nxt c))
def note (c : Dev nD) : Vec F S1x512x2048 .bf16 := k0_pay29 (k0_pay28 (outRS X Wt c 7 (nxt c)))

/-- What device `c` sends as message `s`. -/
def msg (s : ℕ) (c : Dev nD) : Vec F S1x512x2048 .bf16 := if s < 7 then msgRS X Wt s c else note X Wt (back c (s - 7))

theorem msg_rs (c : Dev nD) (h : ℕ) (hh : h < 7) : msg X Wt h c = msgRS X Wt h c := if_pos hh
theorem msg_ag (c : Dev nD) (h : ℕ) : msg X Wt (7 + h) c = note X Wt (back c h) := by
  unfold msg; rw [if_neg (by omega), Nat.add_sub_cancel_left]
theorem msg_ag_prv (c : Dev nD) (h : ℕ) : msg X Wt (7 + h) (prv c) = note X Wt (back c (h + 1)) := by
  rw [msg_ag, back_prv]

/-- The result's row blocks before all-gather step `n`: the device's own and the blocks `0, …, n - 1` places back are final. -/
def outAG (c : Dev nD) : ℕ → Rows F
  | 0 => Function.update (outRS X Wt c 7) (nxt c) (red X Wt c)
  | h + 1 => Function.update (outAG c h) (back c h) (k0_pay30 (note X Wt (back c (h + 1))))

/-- The finished result's row block `b`: a device's own block at full width, every other block as it travelled. -/
theorem outAG_final (c : Dev nD) (b : Fin 8) :
    outAG X Wt c 7 b = if b = nxt c then red X Wt c else k0_pay30 (note X Wt (prv b)) := by
  have key : ∀ n, n ≤ 7 → ∀ j, j < 8 → outAG X Wt c n (back c j)
      = if j = 7 then red X Wt c else if j < n then k0_pay30 (note X Wt (prv (back c j))) else outRS X Wt c 7 (back c j) := by
    intro n hn
    induction n with
    | zero =>
      intro j hj
      rw [outAG]
      by_cases h : j = 7
      · subst h; rw [back_seven, Function.update_self, if_pos rfl]
      · rw [Function.update_of_ne (fun he => h (back_inj c _ _ hj (by omega) (he.trans (back_seven c).symm))), if_neg h, if_neg (by omega)]
    | succ n ih =>
      intro j hj
      rw [outAG]
      by_cases h : j = n
      · subst h; rw [Function.update_self, if_neg (by omega), if_pos (by omega), back_succ]
      · rw [Function.update_of_ne (fun he => h (back_inj c _ _ hj (by omega) he)), ih (by omega) j hj]
        by_cases h7 : j = 7
        · rw [if_pos h7, if_pos h7]
        · rw [if_neg h7, if_neg h7]
          by_cases hlt : j < n
          · rw [if_pos hlt, if_pos (by omega)]
          · rw [if_neg hlt, if_neg (by omega)]
  obtain ⟨j, hj, rfl⟩ : ∃ j, j < 8 ∧ b = back c j := by clear key; revert b c; decide
  rw [key 7 le_rfl j hj]
  by_cases h7 : j = 7
  · subst h7; rw [if_pos rfl, if_pos (back_seven c)]
  · rw [if_neg h7, if_pos (by omega), if_neg]
    intro he; exact h7 (back_inj c _ _ hj (by omega) (he.trans (back_seven c).symm))

end Values

end Cert.Ring

end
-- ==== Proof.Sched.lean ====
/-
The protocol: who waits where, who signals or copies there, how much, and what each landing hands over; what a device
owes before each of its events, and the levels that keep the waits free of cycles.

A device's barrier has two duties of one unit: from its right neighbour, with the word that the four receiving slots
there are free, and from its left neighbour, with nothing. Message `s` (reduce-scatter 0–6, all-gather 7–13) has a send
semaphore, which hands the source slot back, and a receive semaphore, which hands over the slot that was filled. The
credit semaphore has ten duties of one unit in one round; credit `j` hands over the word of how often each receiving
slot has been freed so far. Credits may land out of order, but the `k`-th wait has seen `k` of them, so one at least as
late as the `k`-th.
-/
module

public import proofs.«01_k».proof.Proof.Contents
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Release
public import Mathlib.Tactic.IntervalCases

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

/-! ## The resource algebra: the pipeline's rounds, the ring's rounds, the slots' releases -/

abbrev Key : Type := Dev nD × Fin 4
abbrev UB : Type := URounds (GSem nD τ sig) ℕ
abbrev UU : Type := UR sig nD τ × (UB × USlots Key)

local notation "𝕄" => MT nD τ sig ℕ (Elt F) ℕ UU ℕ

abbrev EP : Emb (UR sig nD τ) (MT nD τ sig ℕ (Elt F) ℕ UU ℕ) := embL
abbrev EB : Emb (UB × USlots Key) (MT nD τ sig ℕ (Elt F) ℕ UU ℕ) := embR
abbrev ER : Emb UB (MT nD τ sig ℕ (Elt F) ℕ UU ℕ) := (Emb.inl : Emb UB (UB × USlots Key)).trans EB
abbrev ES : Emb (USlots Key) (MT nD τ sig ℕ (Elt F) ℕ UU ℕ) := (Emb.inr : Emb (USlots Key) (UB × USlots Key)).trans EB

/-! ## Cells -/

abbrev barC (c : Dev nD) : GSem nD τ sig := ((c : Thread nD τ), .reg barS)
abbrev crdC (c : Dev nD) : GSem nD τ sig := ((c : Thread nD τ), .reg crdS)
abbrev sndC (s : ℕ) (c : Dev nD) : GSem nD τ sig := ((c : Thread nD τ), .dma (sndS s))
abbrev rcvC (s : ℕ) (c : Dev nD) : GSem nD τ sig := ((c : Thread nD τ), .dma (rcvS s))

/-- The credit of one message. -/
@[irreducible] def N : ℕ := (slot rsM 0).view.dmaCredit
theorem N_def : N = (slot rsM 0).view.dmaCredit := by unfold N; rfl
theorem N_pos : 0 < N := by rw [N_def]; exact View.dmaCredit_pos _ (by decide)

/-! ## Slots: held at a value, held at any contents -/

instance : ∀ e, Nonempty (Elt F e) := fun e => inferInstance

def slotP (c : Dev nD) (M : Memref sig .tc .vmem S2x512x2048 .bf16) (b : Fin 2) (v : Vec F S1x512x2048 .bf16) : sProp 𝕄 :=
  (slab M b).view.loc (c : Thread nD τ) ↦[(slab M b).view.set]{fullShare} (slab M b).view.rep v
def slotAny (c : Dev nD) (M : Memref sig .tc .vmem S2x512x2048 .bf16) (b : Fin 2) : sProp 𝕄 :=
  Release.slot ((slab M b).view.loc (c : Thread nD τ)) (slab M b).view.set

instance slotP_storable (c : Dev nD) (M) (b) (v) : BI.Storable (upEmb : UEmb _ 𝕄) (slotP (F := F) c M b v) := by
  unfold slotP; infer_instance
instance slotAny_storable (c : Dev nD) (M) (b) : BI.Storable (upEmb : UEmb _ 𝕄) (slotAny (F := F) c M b) := by
  unfold slotAny; infer_instance

theorem slotP_any (c : Dev nD) (M) (b) (v) : slotP (F := F) c M b v ⊢ slotAny c M b := by
  unfold slotP slotAny Release.slot
  iintro H
  iexists _; iexact H

/-! ## Keys: the four receiving slots of a device; which message uses which, as which write, and what frees it -/

def keyM (k : Fin 4) : Memref sig .tc .vmem S2x512x2048 .bf16 := if k.val < 2 then rsM else agM
def keyB (k : Fin 4) : Fin 2 := par k.val
def kOf (s : ℕ) : Fin 4 := ⟨(s / 7 % 2) * 2 + s % 7 % 2, by omega⟩
/-- Message `s` is write `wno s` into its slot. -/
def wno (s : ℕ) : ℕ := s % 7 / 2 + 1
/-- After how many credits message `s` may be sent. -/
def gate (s : ℕ) : ℕ := if s < 7 then s - 1 else if s < 9 then 0 else s - 3
/-- The message whose slot credit `j` frees. -/
def frees (j : ℕ) : ℕ := if j < 5 then j + 2 else j + 4
/-- How often slot `k` has been freed before credit `u`. -/
def cnt (k : Fin 4) (u : ℕ) : ℕ := ((Finset.range 14).filter fun s => kOf s = k ∧ gate s ≤ u).card

def dstM (s : ℕ) : Memref sig .tc .vmem S2x512x2048 .bf16 := keyM (kOf s)
def dstB (s : ℕ) : Fin 2 := keyB (kOf s)
def srcM (s : ℕ) : Memref sig .tc .vmem S2x512x2048 .bf16 := if s < 8 then stM else agM
def srcB (s : ℕ) : Fin 2 := if s < 8 then par (s % 7) else par (s - 8)

theorem freed_cnt (k : Fin 4) (j : ℕ) (hj : j < 10) : cnt k (j + 1) = if k = kOf (frees j) then cnt k j + 1 else cnt k j := by
  revert k; interval_cases j <;> decide
theorem freed_wno (j : ℕ) (hj : j < 10) : cnt (kOf (frees j)) j + 1 = wno (frees j) := by interval_cases j <;> decide
theorem gate_insert (j : ℕ) (hj : j < 10) :
    (Finset.range 14).filter (fun s => gate s ≤ j + 1) = insert (frees j) ((Finset.range 14).filter fun s => gate s ≤ j) := by
  interval_cases j <;> decide
theorem frees_not_mem (j : ℕ) (hj : j < 10) : frees j ∉ (Finset.range 14).filter fun s => gate s ≤ j := by
  interval_cases j <;> decide

theorem bigSep_cons {I : Type} [DecidableEq I] {A : Finset I} {i : I} (h : i ∉ A) (P : I → sProp 𝕄) :
    bigSep (insert i A) P = iprop(P i ∗ bigSep A P) := bigSep_insert h

section Payloads

variable (X : Dev nD → Vec F S4096x512 .bf16) (Wt : Dev nD → Vec F S512x2048 .bf16)

/-- The word that the slots of device `e` are free for every message that may be sent after `n` credits. -/
def relF (e : Dev nD) (n : ℕ) : sProp 𝕄 :=
  bigSep ((Finset.range 14).filter fun s => gate s ≤ n) fun s => released ES (e, kOf s) (wno s)

instance relF_persistent (e : Dev nD) (n : ℕ) : BI.Persistent (relF (F := F) e n) := by unfold relF; infer_instance
instance relF_storable (e : Dev nD) (n : ℕ) : BI.Storable (upEmb : UEmb _ 𝕄) (relF (F := F) e n) := by unfold relF; infer_instance

theorem relF_succ (e : Dev nD) (j : ℕ) (hj : j < 10) :
    (relF (F := F) e (j + 1)) = iprop(released ES (e, kOf (frees j)) (wno (frees j)) ∗ relF e j) := by
  unfold relF; rw [gate_insert j hj, bigSep_insert (frees_not_mem j hj)]; rfl
theorem relF_get (e : Dev nD) (n s : ℕ) (hs : s < 14) (hg : gate s ≤ n) : relF (F := F) e n ⊢ released ES (e, kOf s) (wno s) := by
  unfold relF; exact bigSep_elim (Finset.mem_filter.mpr ⟨Finset.mem_range.mpr hs, hg⟩)

def sendPay (s : ℕ) (c : Dev nD) : sProp 𝕄 := slotP c (srcM s) (srcB s) (msg X Wt s c)
def recvPay (s : ℕ) (c : Dev nD) : sProp 𝕄 := slotP c (dstM s) (dstB s) (msg X Wt s (prv c))

/-! ## The schedule -/

def duts : SemLoc sig → Finset ℕ
  | .reg s => if s = barS then {0, 1} else Finset.range 10
  | .dma _ => {0}
def amt : SemLoc sig → ℕ
  | .reg _ => 1
  | .dma _ => N
theorem amt_pos (sm : SemLoc sig) : 0 < amt sm := by
  cases sm with
  | reg s => exact Nat.one_pos
  | dma q => exact N_pos
def pay (c : Dev nD) (d : ℕ) : SemLoc sig → sProp 𝕄
  | .reg s => if s = barS then (if d = 0 then relF (nxt c) 0 else iprop(emp)) else relF (nxt c) (d + 1)
  | .dma q => if q.val < 3 then iprop(emp) else if q.val < 17 then sendPay X Wt (q.val - 3) c else recvPay X Wt (q.val - 17) c

instance sendPay_storable (s : ℕ) (c : Dev nD) : BI.Storable (upEmb : UEmb _ 𝕄) (sendPay X Wt s c) := slotP_storable c _ _ _
instance recvPay_storable (s : ℕ) (c : Dev nD) : BI.Storable (upEmb : UEmb _ 𝕄) (recvPay X Wt s c) := slotP_storable c _ _ _

theorem storable_ite {p : Prop} [Decidable p] {A B : sProp 𝕄} (hA : BI.Storable (upEmb : UEmb _ 𝕄) A)
    (hB : BI.Storable (upEmb : UEmb _ 𝕄) B) : BI.Storable (upEmb : UEmb _ 𝕄) (if p then A else B) := by
  by_cases h : p
  · rw [if_pos h]; exact hA
  · rw [if_neg h]; exact hB

theorem pay_storable (c : Dev nD) (d : ℕ) (sm : SemLoc sig) : BI.Storable (upEmb : UEmb _ 𝕄) (pay X Wt c d sm) := by
  cases sm with
  | reg s => exact storable_ite (storable_ite (relF_storable _ _) inferInstance) (relF_storable _ _)
  | dma q => exact storable_ite inferInstance (storable_ite (sendPay_storable X Wt _ _) (recvPay_storable X Wt _ _))

def ringRd : Rounds.Schedule (GSem nD τ sig) ℕ 𝕄 where
  duties g r := if r = 0 then duts g.2 else ∅
  unitless _ := False
  amount g _ _ := amt g.2
  payload g _ d := pay X Wt g.1.1 d g.2
  amount_pos g _ _ _ := amt_pos g.2

instance ringRd_payload_storable (g : GSem nD τ sig) (r : ℕ) (d : ℕ) :
    BI.Storable (upEmb : UEmb _ 𝕄) ((ringRd X Wt).payload g r d) := pay_storable X Wt g.1.1 d g.2

variable (c : Dev nD)

theorem duties_bar : (ringRd X Wt).duties (barC c) 0 = {0, 1} := rfl
theorem duties_crd : (ringRd X Wt).duties (crdC c) 0 = Finset.range 10 := rfl
theorem duties_dma (q : DmaSem sig) : (ringRd X Wt).duties ((c : Thread nD τ), .dma q) 0 = {0} := rfl
theorem duties_later (g : GSem nD τ sig) : ∀ r, 1 ≤ r → (ringRd X Wt).duties g r = ∅ := fun r hr => if_neg (by omega)

theorem amount_dma (q : DmaSem sig) : (ringRd X Wt).amount ((c : Thread nD τ), .dma q) 0 0 = N := rfl
theorem amount_reg (s : Sem sig) (d : ℕ) : (ringRd X Wt).amount ((c : Thread nD τ), .reg s) 0 d = 1 := rfl
theorem expect_bar : (ringRd X Wt).expect (barC c) 0 = 2 := rfl
theorem expect_crd : (ringRd X Wt).expect (crdC c) 0 = 10 := rfl
theorem expect_dma (q : DmaSem sig) : (ringRd X Wt).expect ((c : Thread nD τ), .dma q) 0 = N := by
  rw [Schedule.expect, Schedule.amountOf, duties_dma, Finset.sum_singleton, amount_dma]

theorem pay_snd (s : ℕ) (hs : s < 14) : (ringRd X Wt).payload (sndC s c) 0 0 = sendPay X Wt s c := by
  show pay X Wt c 0 (.dma (sndS s)) = _
  have h : (sndS s).val = 3 + s := by show 3 + s % 14 = _; omega
  unfold pay; dsimp only
  rw [h, if_neg (by omega), if_pos (by omega), Nat.add_sub_cancel_left]
theorem pay_rcv (s : ℕ) (hs : s < 14) : (ringRd X Wt).payload (rcvC s c) 0 0 = recvPay X Wt s c := by
  show pay X Wt c 0 (.dma (rcvS s)) = _
  have h : (rcvS s).val = 17 + s := by show 17 + s % 14 = _; omega
  unfold pay; dsimp only
  rw [h, if_neg (by omega), if_neg (by omega), Nat.add_sub_cancel_left]
theorem pay_crd (j : ℕ) : (ringRd X Wt).payload (crdC c) 0 j = relF (nxt c) (j + 1) := rfl
theorem pay_bar0 : (ringRd X Wt).payload (barC c) 0 0 = relF (nxt c) 0 := rfl
theorem pay_bar1 : (ringRd X Wt).payload (barC c) 0 1 = iprop(emp) := rfl

theorem rest_bar : bigSep ((ringRd X Wt).duties (barC c) 0 \ ∅) (fun d => (ringRd X Wt).payload (barC c) 0 d) = iprop(relF (nxt c) 0 ∗ emp) := by
  rw [Finset.sdiff_empty, duties_bar, bigSep_insert (by decide), bigSep_singleton, pay_bar0, pay_bar1]; rfl
theorem rest_snd (s : ℕ) (hs : s < 14) :
    bigSep ((ringRd X Wt).duties (sndC s c) 0 \ ∅) (fun d => (ringRd X Wt).payload (sndC s c) 0 d) = sendPay X Wt s c := by
  rw [Finset.sdiff_empty, duties_dma, bigSep_singleton, pay_snd X Wt c s hs]
theorem rest_rcv (s : ℕ) (hs : s < 14) :
    bigSep ((ringRd X Wt).duties (rcvC s c) 0 \ ∅) (fun d => (ringRd X Wt).payload (rcvC s c) 0 d) = recvPay X Wt s c := by
  rw [Finset.sdiff_empty, duties_dma, bigSep_singleton, pay_rcv X Wt c s hs]

end Payloads

/-! ## What a device owes before each of its events; the levels -/

/-- Where in the order of a device's events message `s` and credit `j` come (0 and 1 are the barrier signals). -/
def posR (s : ℕ) : ℕ := if s < 5 then 2 + 2 * s else if s < 9 then s + 7 else 2 * s - 1
def posC (j : ℕ) : ℕ := if j < 5 then 3 + 2 * j else 2 * j + 6
/-- The events from the second on: messages left, credits right. -/
def tab : List (ℕ ⊕ ℕ) :=
  [.inl 0, .inr 0, .inl 1, .inr 1, .inl 2, .inr 2, .inl 3, .inr 3, .inl 4, .inr 4, .inl 5, .inl 6, .inl 7, .inl 8, .inr 5,
   .inl 9, .inr 6, .inl 10, .inr 7, .inl 11, .inr 8, .inl 12, .inr 9, .inl 13]

def evOf (c : Dev nD) : ℕ ⊕ ℕ → GSem nD τ sig × ℕ × ℕ
  | .inl s => (rcvC s (nxt c), 0, N)
  | .inr j => (crdC (prv c), j, 1)
/-- Event `k` of device `c`: the cell it pays, at which index, how much. -/
def ev (c : Dev nD) : ℕ → GSem nD τ sig × ℕ × ℕ
  | 0 => (barC (prv c), 0, 1)
  | 1 => (barC (nxt c), 0, 1)
  | k + 2 => evOf c (tab.getD k (.inl 0))

theorem ev_R (c : Dev nD) (s : ℕ) (hs : s < 14) : ev c (posR s) = (rcvC s (nxt c), 0, N) := by interval_cases s <;> rfl
theorem ev_C (c : Dev nD) (j : ℕ) (hj : j < 10) : ev c (posC j) = (crdC (prv c), j, 1) := by interval_cases j <;> rfl

def owe (c : Dev nD) (k : ℕ) : CellTallies nD τ sig ℕ := tallyAt (ev c k).1 (ev c k).2.1 (ev c k).2.2
/-- What device `c` owes before event `n`. -/
def Ow (c : Dev nD) (n : ℕ) : CellTallies nD τ sig ℕ := ∑ k ∈ Finset.Ico n 26, owe c k

theorem Ico_cons {n k : ℕ} (h : n < k) : Finset.Ico n k = insert n (Finset.Ico (n + 1) k) := by
  ext x; simp only [Finset.mem_insert, Finset.mem_Ico]; omega
theorem Ico_cons_not_mem (n k : ℕ) : n ∉ Finset.Ico (n + 1) k := fun h => by have := (Finset.mem_Ico.mp h).1; omega

theorem Ow_step (c : Dev nD) (n : ℕ) (hn : n < 26) : Ow c n = Ow c (n + 1) + owe c n := by
  unfold Ow
  rw [Ico_cons hn, Finset.sum_insert (Ico_cons_not_mem n 26), add_comm]
theorem Ow_end (c : Dev nD) : Ow c 26 = 0 := by unfold Ow; rw [Finset.Ico_self, Finset.sum_empty]

theorem Ow_R (c : Dev nD) (s : ℕ) (hs : s < 14) : Ow c (posR s) = Ow c (posR s + 1) + tallyAt (rcvC s (nxt c)) 0 N := by
  rw [Ow_step c _ (by unfold posR; split_ifs <;> omega), owe, ev_R c s hs]
theorem Ow_C (c : Dev nD) (j : ℕ) (hj : j < 10) : Ow c (posC j) = Ow c (posC j + 1) + tallyAt (crdC (prv c)) j 1 := by
  rw [Ow_step c _ (by unfold posC; split_ifs <;> omega), owe, ev_C c j hj]

def L (g : GSem nD τ sig) : Finset ℕ := if g.1.2 = .tc then Finset.range 10 else ∅
def lvl (sm : SemLoc sig) (u : ℕ) : ℕ := match sm with
  | .reg s => if s = barS then 1 else posC u
  | .dma q => if q.val < 17 then 0 else posR (q.val - 17)
def lv (g : GSem nD τ sig) (u : ℕ) : ℕ := lvl g.2 u

theorem L_of_ne (g : GSem nD τ sig) (h : g.1.2 ≠ .tc) : L g = ∅ := if_neg h
theorem L_tc (c : Dev nD) (sm : SemLoc sig) : L ((c : Thread nD τ), sm) = Finset.range 10 := if_pos rfl

theorem Ow_pos {c : Dev nD} {n : ℕ} {g : GSem nD τ sig} {u : ℕ} (h : 0 < Ow c n g u) :
    ∃ k, n ≤ k ∧ k < 26 ∧ g = (ev c k).1 ∧ u = (ev c k).2.1 := by
  unfold Ow at h
  rw [Finset.sum_apply, Finsupp.finset_sum_apply] at h
  obtain ⟨k, hk, hp⟩ := Finset.exists_ne_zero_of_sum_ne_zero h.ne'
  rw [owe, tallyAt_apply] at hp
  refine ⟨k, (Finset.mem_Ico.mp hk).1, (Finset.mem_Ico.mp hk).2, ?_⟩
  by_contra hn
  rw [if_neg hn] at hp; exact hp rfl

theorem lv_ev (c : Dev nD) (k : ℕ) (hk : k < 26) : max 1 k ≤ lv (ev c k).1 (ev c k).2.1 ∧ (ev c k).2.1 ∈ L (ev c k).1 := by
  interval_cases k <;> exact ⟨Nat.le_of_ble_eq_true rfl, Finset.mem_range.mpr (Nat.le_of_ble_eq_true rfl)⟩

/-- A device may wait at a cell below everything that it still owes. -/
theorem mayOwe (c : Dev nD) (sm : SemLoc sig) (u n : ℕ) (hu : u < 10) (hlt : lvl sm u < max 1 n) :
    (levAts L lv : sProp 𝕄) ⊢ MayWait (c : Thread nD τ) sm u (Ow c n) := by
  refine MayOwe.of_cut (L := L) (lev := lv) (lvl sm u) (fun p hp => by rw [Finset.mem_singleton.mp hp, L_tc]; exact Finset.mem_range.mpr hu)
    (fun g v hg => ?_) (fun p hp => by rw [Finset.mem_singleton.mp hp]; exact le_rfl) (fun g v hg => ?_)
  · obtain ⟨k, -, hk, rfl, rfl⟩ := Ow_pos hg; exact (lv_ev c k hk).2
  · obtain ⟨k, hn, hk, rfl, rfl⟩ := Ow_pos hg
    have := (lv_ev c k hk).1
    omega

end Cert.Ring

end
-- ==== Proof.Steps.lean ====
/-
The rules for the pieces of the body: a slot stored and loaded, rows of the result loaded and stored, a message sent and
awaited, a credit taken and given.
-/
module

public import proofs.«01_k».proof.Proof.Sched
public import Idealize.ShloMosaic.Lib.Tactic

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

abbrev 𝒱₀ : Variants := Variants.none

/-- The rest `p` of the body, run on device `c`, ends in `Q`. -/
abbrev WP (c : Dev nD) (p : P F) (Q : PUnit → sProp 𝕄) : sProp 𝕄 :=
  wp frame (wpE (defs₀ (F := F)) 𝒱₀ (c : Thread nD τ) none) Set.univ p Q

/-! ## Slots -/

theorem slab_set (M : Memref sig .tc .vmem S2x512x2048 .bf16) (b : Fin 2) :
    (slab M b).view.set = (sr b).set.map M.view.emb := View.set_slice _ _
theorem slot_set (M : Memref sig .tc .vmem S2x512x2048 .bf16) (b : Fin 2) : (slot M b).view.set = (slab M b).view.set :=
  View.set_reshape _ _

theorem wp_storeS (c : Dev nD) (M) (hM : M.IsWhole) (b : Fin 2) (v : Vec F S1x512x2048 .bf16) (k : P F) (Q : PUnit → sProp 𝕄) :
    slotAny c M b ⊢ iprop((slotP c M b v -∗ WP c k Q) -∗ WP c (storeS M hM b v k) Q) := by
  unfold slotAny Release.slot storeS
  simp only [Prog.lift, Prog.bind_op, Prog.bind_ret]
  iintro ⟨%f, H⟩ Hk
  iapply (wp_load 𝒱₀ (c : Thread nD τ) none Set.univ (m := M) (subset_of_eq (slab_set M b).symm)) $$ H
  iintro H
  iapply (wp_store 𝒱₀ (c : Thread nD τ) none Set.univ (m := M) (r := sr b) (Mk := Finset.univ) (subset_of_eq (View.setOn_univ _))) $$ H
  iintro H
  iapply Hk
  unfold slotP
  ihave H' := (pointsTo_rep_entails (c : Thread nD τ) (slab M b) _ _) $$ H
  rw [View.read_write_univ]
  iexact H'

theorem wp_loadS (c : Dev nD) (M) (b : Fin 2) (v : Vec F S1x512x2048 .bf16) (k : Vec F S1x512x2048 .bf16 → P F) (Q : PUnit → sProp 𝕄) :
    slotP c M b v ⊢ iprop((slotP c M b v -∗ WP c (k v) Q) -∗ WP c (loadS M b k) Q) := by
  unfold slotP
  simp only [Prog.lift, Prog.bind_op, Prog.bind_ret]
  iintro H Hk
  iapply (wp_load_rect 𝒱₀ (c : Thread nD τ) none Set.univ (m := M) (r := sr b) (Finset.Subset.refl _)) $$ H
  iintro H
  rw [View.read_rep]
  iapply Hk; iexact H

/-! ## The result -/

def outP (c : Dev nD) (g : Rows F) : sProp 𝕄 := ((c : Thread nD τ).loc cc0_stg2_0) ↦{fullShare} asm g

theorem wp_loadO (c : Dev nD) {off : Fin 2 → ℕ} (inb : ∀ a, off a + S512x2048.size a ≤ S4096x2048.size a) (hr) (b : Fin 8) (h : off = ![512 * b.val, 0])
    (g : Rows F) (k : Vec F S512x2048 .f32 → P F) (Q : PUnit → sProp 𝕄) :
    outP c g ⊢ iprop((outP c g -∗ WP c (k (g b)) Q)
      -∗ WP c (loadO (Rect.unit (s := S4096x2048) off S512x2048.size inb) hr k) Q) := by
  unfold outP
  simp only [Prog.lift, Prog.bind_op, Prog.bind_ret]
  iintro H Hk
  iapply (wp_load 𝒱₀ (c : Thread nD τ) none Set.univ (m := oM) (Finset.subset_univ _)) $$ H
  iintro H
  rw [read_asm_at inb b h g]
  iapply Hk; iexact H

theorem wp_storeO (c : Dev nD) {off : Fin 2 → ℕ} (inb : ∀ a, off a + S512x2048.size a ≤ S4096x2048.size a) (hr) (b : Fin 8) (h : off = ![512 * b.val, 0])
    (g : Rows F) (w : Vec F S512x2048 .f32) (k : P F) (Q : PUnit → sProp 𝕄) :
    outP c g ⊢ iprop((outP c (Function.update g b w) -∗ WP c k Q)
      -∗ WP c (storeO (Rect.unit (s := S4096x2048) off S512x2048.size inb) hr w k) Q) := by
  unfold outP
  simp only [Prog.lift, Prog.bind_op, Prog.bind_ret]
  iintro H Hk
  iapply (wp_load 𝒱₀ (c : Thread nD τ) none Set.univ (m := oM) (Finset.subset_univ _)) $$ H
  iintro H
  iapply (wp_store 𝒱₀ (c : Thread nD τ) none Set.univ (m := oM) (r := Rect.unit (s := S4096x2048) off S512x2048.size inb) (Mk := Finset.univ)
    (Finset.subset_univ _)) $$ H
  iintro H
  rw [write_asm_at inb b h g w]
  iapply Hk; iexact H

/-! ## A message: sent, its source back, the other neighbour's landed -/

theorem credit_st (b : Fin 2) : (slot stM b).view.dmaCredit = N := by rw [N_def]
theorem credit_rs (b : Fin 2) : (slot rsM b).view.dmaCredit = N := by rw [N_def]
theorem credit_ag (b : Fin 2) : (slot agM b).view.dmaCredit = N := by rw [N_def]

/-- A slot filled by a copy of a slot holding `v` holds `v`. -/
theorem landed (c' : Dev nD) (A B : Memref sig .tc .vmem S2x512x2048 .bf16) (b b' : Fin 2) (v : Vec F S1x512x2048 .bf16)
    (f : Buf (Elt F) ((slot B b').view.loc (c' : Thread nD τ))) :
    ((slot B b').view.loc (c' : Thread nD τ) ↦[(slot B b').view.set]{fullShare}
      ((slot B b').view.write (Elt F) f ((slot A b).view.read (Elt F) ((slab A b).view.rep v)) Finset.univ) : sProp 𝕄)
      ⊢ slotP c' B b' v := by
  unfold slotP
  rw [slot_set]
  refine (pointsTo_rep_entails (c' : Thread nD τ) (slab B b') _ _).trans (Entails.of_eq ?_)
  congr 2
  funext y
  obtain ⟨x, rfl⟩ := (Shape.reshapeEquiv squeezes_S1x512x2048_S512x2048.numel_eq).surjective y
  show (slot B b').view.read (Elt F) _ x = _
  rw [View.read_write_univ]
  show (slab A b).view.read (Elt F) ((slab A b).view.rep v) _ = _
  rw [View.read_rep]; rfl

section Messages

theorem lvl_snd (s : ℕ) (hs : s < 14) (n : ℕ) : lvl (.dma (sndS s)) 0 < max 1 n := by
  have h : (sndS s).val < 17 := by show 3 + s % 14 < 17; omega
  unfold lvl; dsimp only; rw [if_pos h]; omega
theorem lvl_rcv (s : ℕ) (hs : s < 14) : lvl (.dma (rcvS s)) 0 < max 1 (posR s + 1) := by
  have h : (rcvS s).val = 17 + s := by show 17 + s % 14 = _; omega
  unfold lvl; dsimp only; rw [h, if_neg (by omega), Nat.add_sub_cancel_left]; omega

variable (X : Dev nD → Vec F S4096x512 .bf16) (Wt : Dev nD → Vec F S512x2048 .bf16)

/-- A cell of the protocol: its invariant, at its first round. -/
def knowC (g : GSem nD τ sig) : sProp 𝕄 := iprop(∃ κ, cellInv ER (ringRd X Wt) κ g ∗ reached ER g 0)
instance knowC_persistent (g : GSem nD τ sig) : BI.Persistent (knowC X Wt g) := by unfold knowC; infer_instance
/-- A receiving slot of the protocol. -/
def knowS (k : Key) : sProp 𝕄 := iprop(∃ ι, slotInv ES ι k (slotAny (F := F) k.1 (keyM k.2) (keyB k.2)))
instance knowS_persistent (k : Key) : BI.Persistent (knowS (F := F) k) := by unfold knowS; infer_instance

/-- What device `c` owes before event `n`, whatever it has waited for. -/
def own (c : Dev nD) (n : ℕ) : sProp 𝕄 := iprop(∃ W, owes (c : Thread nD τ) (Ow c n) W)

/-- What device `c` keeps for message `s` until it sends it. -/
def tick (c : Dev nD) (s : ℕ) : sProp 𝕄 :=
  iprop(atPos ER (sndC s c) 0 ∅ 0 ∗ atPos ER (rcvC s c) 0 ∅ 0 ∗ dutyTok ER (sndC s c) 0 0 ∗ dutyTok ER (rcvC s (nxt c)) 0 0
    ∗ cred (tallyAt (rcvC s c) 0 N) ∗ writeTok ES (nxt c, kOf s) (wno s))
/-- What is left of it afterwards: the two semaphores at zero. -/
def tock (c : Dev nD) (s : ℕ) : sProp 𝕄 := iprop(semVal (sndC s c) 0 ∗ semVal (rcvC s c) 0)

theorem wp_send (c n : Dev nD) (hn : n = nxt c) (s : ℕ) (hs : s < 14) (A B : Memref sig .tc .vmem S2x512x2048 .bf16) (b b' : Fin 2)
    (hsA : srcM s = A) (hsb : srcB s = b) (hdB : dstM s = B) (hdb : dstB s = b')
    (hNB : (slot B b').view.dmaCredit = N) {hsc : (slot B b').view.ref.isScScratch = false} {hsrc : (slot A b).view.WordExact}
    {hdst : (slot B b').view.WordExact}
    {hsem : DmaTarget.Typed .vmem (.dma (rcvS s)) (.remote (Dev.tc n : Thread nD τ) (slot B b') (.dma (sndS s)) hsc)}
    (κ₁ κ₂ : ℕ) (W : Waits sig ℕ) (k : PUnit → P F) (Q : PUnit → sProp 𝕄) :
    iprop(cellInv ER (ringRd X Wt) κ₁ (sndC s c) ∗ cellInv ER (ringRd X Wt) κ₂ (rcvC s (nxt c))
        ∗ slotP c A b (msg X Wt s c) ∗ slotAny (nxt c) B b' ∗ owes (c : Thread nD τ) (Ow c (posR s)) W
        ∗ dutyTok ER (sndC s c) 0 0 ∗ reached ER (sndC s c) 0 ∗ dutyTok ER (rcvC s (nxt c)) 0 0 ∗ reached ER (rcvC s (nxt c)) 0)
      ⊢ iprop(((cred (tallyAt (sndC s c) 0 N) ∗ owes (c : Thread nD τ) (Ow c (posR s + 1)) W) -∗ WP c (k ⟨⟩) Q)
        -∗ WP c (.op (.enqueueDma (slot A b) (.remote (Dev.tc n : Thread nD τ) (slot B b') (.dma (sndS s)) hsc) (.dma (rcvS s)) hsrc hdst hsem) k) Q) := by
  subst hn
  have hs' : slotP c A b (msg X Wt s c)
      = ((slot A b).view.loc (c : Thread nD τ) ↦[(slot A b).view.set]{fullShare} (slab A b).view.rep (msg X Wt s c) : sProp 𝕄) := by
    rw [slot_set]; rfl
  have hd' : slotAny (F := F) (nxt c) B b'
      ⊢ iprop(∃ f : Buf (Elt F) ((slot B b').view.loc (nxt c : Thread nD τ)), (slot B b').view.loc (nxt c : Thread nD τ) ↦[(slot B b').view.set]{fullShare} f) := by
    rw [slot_set]; exact BI.Entails.refl _
  iintro ⟨#HI1, #HI2, Hsrc, Hdst, HO, Hd1, #Hr1, Hd2, #Hr2⟩ Hk
  ihave Hsrc := (Entails.of_eq hs') $$ Hsrc
  ihave Hdst := hd' $$ Hdst
  icases Hdst with ⟨%fd, Hdst⟩
  iapply (Rounds.wp_send_pointsTo 𝒱₀ ER (ringRd X Wt) (c : Thread nD τ) none (c' := (nxt c : Thread nD τ)) (κ₁ := κ₁) (κ₂ := κ₂)
    (src := slot A b) (dst := slot B b') (sS := .dma (sndS s)) (sem := .dma (rcvS s))
    (r₁ := 0) (r₂ := 0) (d₁ := 0) (d₂ := 0) (q := fullShare) (fs := (slab A b).view.rep (msg X Wt s c)) (fd := fd)
    (by rw [duties_dma]; exact Finset.mem_singleton_self _) (by rw [duties_dma]; exact Finset.mem_singleton_self _)
    0 0 N hNB (amount_dma X Wt c (sndS s)) (amount_dma X Wt (nxt c) (rcvS s)) (Ow c (posR s + 1)) (Ow_R c s hs) (W := W)
    (by rw [pay_snd X Wt c s hs]; unfold sendPay; rw [hsA, hsb, hs'])
    (by rw [pay_rcv X Wt (nxt c) s hs]; unfold recvPay; rw [hdB, hdb, prv_nxt]; exact landed (nxt c) A B b b' _ fd)) $$ [Hsrc Hdst HO Hd1 Hd2]
  · isplitr; · iexact HI1
    isplitr; · iexact HI2
    isplitl [Hsrc]; · iexact Hsrc
    isplitl [Hdst]; · iexact Hdst
    isplitl [HO]; · iexact HO
    isplitl [Hd1]; · iexact Hd1
    isplitr; · iexact Hr1
    isplitl [Hd2]; · iexact Hd2
    iexact Hr2
  iexact Hk

theorem wp_comm (c : Dev nD) (s : ℕ) (hs : s < 14) (A B : Memref sig .tc .vmem S2x512x2048 .bf16) (hA : A.IsWhole) (hB : B.IsWhole) (b b' : Fin 2)
    (hsA : srcM s = A) (hsb : srcB s = b) (hdB : dstM s = B) (hdb : dstB s = b')
    (hNA : (slot A b).view.dmaCredit = N) (hNB : (slot B b').view.dmaCredit = N) (k : P F) (Q : PUnit → sProp 𝕄) :
    iprop(knowC X Wt (sndC s c) ∗ knowC X Wt (rcvC s c) ∗ knowC X Wt (rcvC s (nxt c)) ∗ knowS (nxt c, kOf s) ∗ levAts L lv
        ∗ released ES (nxt c, kOf s) (wno s) ∗ tick c s ∗ own c (posR s) ∗ slotP c A b (msg X Wt s c))
      ⊢ iprop(((own c (posR s + 1) ∗ slotP c A b (msg X Wt s c) ∗ slotP c B b' (msg X Wt s (prv c)) ∗ tock c s) -∗ WP c k Q)
        -∗ WP c (comm c s A B hA hB b b' k) Q) := by
  subst hsA hsb hdB hdb
  unfold comm
  simp only [Prog.lift, Prog.bind_op, Prog.bind_ret]
  unfold knowC knowS tick own
  iintro ⟨⟨%κ₁, #HI1, #HR1⟩, ⟨%κ₂, #HI2, #HR2⟩, ⟨%κ₃, #HI3, #HR3⟩, ⟨%ι, #HS⟩, #Hlev, #Hrel, ⟨HatS, HatR, HdS, HdR, Hc, Hw⟩, ⟨%W, HO⟩, Hsrc⟩ Hk
  imod (Release.slot_take ES (Set.mem_univ ι) (wno s)) $$ [Hw] with Hslot
  · iframe HS Hrel Hw
  iapply (wp_send X Wt c (devR c) (devR_eq c) s hs (srcM s) (dstM s) (srcB s) (dstB s) rfl rfl rfl rfl hNB κ₁ κ₃ W) $$ [Hsrc Hslot HO HdS HdR]
  · iframe HI1 HI3 Hsrc Hslot HO HdS HR1 HdR HR3
  iintro ⟨HcS, HO⟩
  iapply (Rounds.wp_wait_rest_token 𝒱₀ ER (ringRd X Wt) (c : Thread nD τ) none (κ := κ₁)
      (wpE_waitDma2_eq 𝒱₀ (c : Thread nD τ) none Set.univ) (Set.mem_univ _) 0 (O := Ow c (posR s + 1)) (W := W) (R := 0) (m := 0) (T := ∅)
      (by rw [Nat.zero_add, expect_dma]; exact hNA)) $$ [HcS HO HatS]
  · rw [hNA]
    isplitr; · iexact HI1
    isplitl [HcS]; · iexact HcS
    isplitl [HO]; · iexact HO
    isplitr; · iapply (mayOwe c (.dma (sndS s)) 0 _ (by decide) (lvl_snd s hs _)); iexact Hlev
    iexact HatS
  iintro ⟨HO, HatS, -, Hpay⟩
  ihave Hsrc := (Entails.of_eq (rest_snd X Wt c s hs)) $$ Hpay
  iapply (Rounds.wp_wait_rest_token 𝒱₀ ER (ringRd X Wt) (c : Thread nD τ) none (κ := κ₂)
      (wpE_waitDma2_eq 𝒱₀ (c : Thread nD τ) none Set.univ) (Set.mem_univ _) 0 (O := Ow c (posR s + 1)) (R := 0) (m := 0) (T := ∅)
      (by rw [Nat.zero_add, expect_dma]; exact hNB)) $$ [Hc HO HatR]
  · rw [hNB]
    isplitr; · iexact HI2
    isplitl [Hc]; · iexact Hc
    isplitl [HO]; · iexact HO
    isplitr; · iapply (mayOwe c (.dma (rcvS s)) 0 _ (by decide) (lvl_rcv s hs)); iexact Hlev
    iexact HatR
  iintro ⟨HO, HatR, -, Hpay⟩
  ihave Hdst := (Entails.of_eq (rest_rcv X Wt c s hs)) $$ Hpay
  imod (Rounds.cell_close ER (ringRd X Wt) (Set.mem_univ κ₁) (fun h => h) (R := 0 + 1) (duties_later X Wt (sndC s c))) $$ [HatS] with HzS
  · isplitr; · iexact HI1
    iexact HatS
  imod (Rounds.cell_close ER (ringRd X Wt) (Set.mem_univ κ₂) (fun h => h) (R := 0 + 1) (duties_later X Wt (rcvC s c))) $$ [HatR] with HzR
  · isplitr; · iexact HI2
    iexact HatR
  iapply Hk
  unfold tock sendPay recvPay
  isplitl [HO]; · iexists _; iexact HO
  iframe Hsrc Hdst HzS HzR

/-! ## Credits -/

theorem slotAny_false (c : Dev nD) (M) (b : Fin 2) : iprop(slotAny (F := F) c M b ∗ slotAny c M b) ⊢ (False : sProp 𝕄) := by
  refine Release.slot_slot_false ?_
  rw [slab_set, Finset.map_nonempty, ← Rect.map_emb_univ, Finset.map_nonempty]
  exact ⟨fun a => ⟨0, by fin_cases b <;> fin_cases a <;> decide⟩, Finset.mem_univ _⟩

/-- How often each of device `c`'s receiving slots has been freed before credit `u`. -/
def rdr (c : Dev nD) (u : ℕ) : sProp 𝕄 := bigSep Finset.univ fun k : Fin 4 => readerAt ES (c, k) (cnt k u)

/-- What device `c` keeps to give credits from the `u`-th on. -/
def giv (c : Dev nD) (u : ℕ) : sProp 𝕄 :=
  iprop(rdr c u ∗ relF c u ∗ bigSep (Finset.Ico u 10) fun j => dutyTok ER (crdC (prv c)) 0 j)

theorem rdr_split (c : Dev nD) (u : ℕ) (k : Fin 4) :
    rdr (F := F) c u = iprop(readerAt ES (c, k) (cnt k u) ∗ bigSep (Finset.univ.erase k) fun k' => readerAt ES (c, k') (cnt k' u)) := by
  unfold rdr
  conv => lhs; rw [← Finset.insert_erase (Finset.mem_univ k), bigSep_cons (Finset.notMem_erase k _)]

theorem rdr_succ (c : Dev nD) (j : ℕ) (hj : j < 10) :
    rdr (F := F) c (j + 1) = iprop(readerAt ES (c, kOf (frees j)) (cnt (kOf (frees j)) j + 1)
      ∗ bigSep (Finset.univ.erase (kOf (frees j))) fun k' => readerAt ES (c, k') (cnt k' j)) := by
  rw [rdr_split c (j + 1) (kOf (frees j)), freed_cnt _ j hj, if_pos rfl]
  congr 1
  exact bigSep_congr fun k' hk' => by rw [freed_cnt _ j hj, if_neg (Finset.ne_of_mem_erase hk')]

theorem wp_give (c : Dev nD) (j : ℕ) (hj : j < 10) (k : P F) (Q : PUnit → sProp 𝕄) :
    iprop(knowC X Wt (crdC (prv c)) ∗ knowS (c, kOf (frees j)) ∗ giv c j ∗ slotAny c (dstM (frees j)) (dstB (frees j)) ∗ own c (posC j))
      ⊢ iprop(((giv c (j + 1) ∗ own c (posC j + 1)) -∗ WP c k Q) -∗ WP c (giveCredit c k) Q) := by
  unfold giveCredit
  simp only [semSignalWord, Prog.lift, Prog.bind_op, Prog.bind_ret]
  rw [show devL c = prv c from devL_eq c]
  unfold knowC knowS giv own
  rw [rdr_split c j (kOf (frees j)), Ico_cons hj, bigSep_cons (Ico_cons_not_mem j 10)]
  iintro ⟨⟨%κ, #HI, #HR⟩, ⟨%ι, #HS⟩, ⟨⟨Hr, Hrs⟩, #Hrel, ⟨Hd, Hds⟩⟩, Hslot, ⟨%W, HO⟩⟩ Hk
  imod (Release.slot_release ES (Set.mem_univ ι) (slotAny_false _ _ _) (cnt (kOf (frees j)) j)) $$ [Hr Hslot] with ⟨Hr, #Hnew⟩
  · isplitr; · iexact HS
    isplitl [Hr]; · iexact Hr
    iexact Hslot
  ihave #Hrel' : (relF (F := F) c (j + 1)) $$ []
  · rw [relF_succ c j hj, ← freed_wno j hj]
    isplitr; · iexact Hnew
    iexact Hrel
  iapply (Rounds.wp_signal 𝒱₀ ER (ringRd X Wt) (c : Thread nD τ) none (dst := (prv c : Thread nD τ)) (κ := κ)
      (d := j) (by rw [duties_crd]; exact Finset.mem_range.mpr hj) ((amount_reg X Wt (prv c) crdS j).trans (by decide)) j (Ow c (posC j + 1)) (Ow_C c j hj))
    $$ [HO Hd]
  · isplitr; · iexact HI
    isplitl [HO]; · iexact HO
    isplitl [Hd]; · iexact Hd
    isplitr
    · rw [pay_crd X Wt (prv c) j, nxt_prv]; iexact Hrel'
    iexact HR
  iintro HO
  iapply Hk
  rw [rdr_succ c j hj]
  isplitl [Hr Hrs Hds]
  · isplitl [Hr Hrs]
    · isplitl [Hr]; · iexact Hr
      iexact Hrs
    isplitr; · iexact Hrel'
    iexact Hds
  iexists W; iexact HO

/-- What device `c` keeps to take credits from the `k`-th on: `k` of the ten have come. -/
def tak (c : Dev nD) (k : ℕ) : sProp 𝕄 :=
  iprop((∃ T : Finset ℕ, ⌜T ⊆ Finset.range 10 ∧ k ≤ T.card⌝ ∗ atPos ER (crdC c) 0 T k ∗ bigSep T fun j => relF (nxt c) (j + 1))
    ∗ bigSep (Finset.Ico k 10) fun j => cred (tallyAt (crdC c) j 1))

theorem bigSep_parts {T S : Finset ℕ} (h : T ⊆ S) (P : ℕ → sProp 𝕄) : iprop(bigSep T P ∗ bigSep (S \ T) P) ⊢ bigSep S P :=
  Entails.of_eq (by conv => rhs; rw [← Finset.union_sdiff_of_subset h, bigSep_union Finset.disjoint_sdiff]
                    rfl)

theorem late_mem {T : Finset ℕ} {k : ℕ} (h : k + 1 ≤ T.card) : ∃ j ∈ T, k ≤ j := by
  by_contra hn
  have hs : T ⊆ Finset.range k := fun j hj => Finset.mem_range.mpr (by by_contra hc; exact hn ⟨j, hj, by omega⟩)
  have := Finset.card_le_card hs
  rw [Finset.card_range] at this
  omega

theorem frees_gate (k : ℕ) (hk : k < 10) : gate (frees k) = k + 1 ∧ frees k < 14 := by interval_cases k <;> decide

theorem wp_take (c : Dev nD) (k n : ℕ) (hk : k < 10) (hn : posC k < n) (p : P F) (Q : PUnit → sProp 𝕄) :
    iprop(knowC X Wt (crdC c) ∗ levAts L lv ∗ tak c k ∗ own c n)
      ⊢ iprop(((tak c (k + 1) ∗ own c n ∗ released ES (nxt c, kOf (frees k)) (wno (frees k))) -∗ WP c p Q) -∗ WP c (takeCredit p) Q) := by
  unfold takeCredit
  simp only [semWaitWord, Prog.lift, Prog.bind_op, Prog.bind_ret]
  unfold knowC tak own
  rw [Ico_cons hk, bigSep_cons (Ico_cons_not_mem k 10)]
  iintro ⟨⟨%κ, #HI, #HR⟩, #Hlev, ⟨⟨%T, %hT, Hat, #HT⟩, ⟨Hc, Hcs⟩⟩, ⟨%W, HO⟩⟩ Hk
  iapply (Rounds.wp_wait 𝒱₀ ER (ringRd X Wt) (c : Thread nD τ) none (κ := κ)
      (wpE_semWait_eq 𝒱₀ (c : Thread nD τ) none Set.univ) (Set.mem_univ _) (cr := Finsupp.single k 1) (O := Ow c n) (W := W) {(.reg crdS, k)}
      (R := 0) (m := k) (T := T) (Util.total_single k 1) (by
        intro x hx
        obtain ⟨y, hy, rfl⟩ := Finset.mem_image.mp hx
        rw [Finset.mem_singleton.mp (Finsupp.support_single_subset hy)]; exact Finset.mem_singleton_self _)) $$ [Hc HO Hat]
  · isplitr; · iexact HI
    isplitl [Hc]; · iexact Hc
    isplitl [HO]; · iexact HO
    isplitr; · iapply (mayOwe c (.reg crdS) k n hk (by show posC k < _; omega)); iexact Hlev
    iexact Hat
  iintro %S ⟨%hS, HO, Hat, Hpay⟩
  ihave #Hpay := (Entails.of_eq (show bigSep (S \ T) (fun d => (ringRd X Wt).payload (crdC c) 0 d)
    = bigSep (S \ T) fun j => relF (F := F) (nxt c) (j + 1) from rfl)) $$ Hpay
  have hcard : k + 1 ≤ S.card := by
    have h1 := hS.2.2
    have hs : S ⊆ Finset.range 10 := hS.2.1
    rw [duties_crd, expect_crd, Finset.card_sdiff_of_subset hs, Finset.card_range] at h1
    have h2 := Finset.card_le_card hs
    rw [Finset.card_range] at h2
    omega
  obtain ⟨j, hjS, hjk⟩ := late_mem hcard
  ihave #HS : (bigSep S fun j => relF (F := F) (nxt c) (j + 1)) $$ []
  · iapply (bigSep_parts (F := F) hS.1 fun j => relF (nxt c) (j + 1))
    isplitr; · iexact HT
    iexact Hpay
  ihave #Hj := (show (bigSep S fun j => relF (F := F) (nxt c) (j + 1)) ⊢ relF (nxt c) (j + 1) from bigSep_elim hjS) $$ HS
  iapply Hk
  isplitl [Hat Hcs]
  · isplitl [Hat]
    · iexists S
      isplitr; · ipureintro; exact ⟨hS.2.1, hcard⟩
      isplitl [Hat]; · iexact Hat
      iexact HS
    iexact Hcs
  isplitl [HO]; · iexists _; iexact HO
  iapply (relF_get (nxt c) (j + 1) (frees k) (frees_gate k hk).2 (by rw [(frees_gate k hk).1]; omega)); iexact Hj

theorem tak_end (c : Dev nD) : iprop(knowC X Wt (crdC c) ∗ tak c 10) ⊢ iprop(|={Set.univ}=> semVal (crdC c) 0) := by
  unfold knowC tak
  iintro ⟨⟨%κ, #HI, #HR⟩, ⟨⟨%T, %hT, Hat, -⟩, -⟩⟩
  imod (Rounds.fupd_skip ER (ringRd X Wt) (T := T) (R := 0) (m := 10)
    (by rw [duties_crd, Finset.eq_of_subset_of_card_le hT.1 (by rw [Finset.card_range]; exact hT.2)])
    (expect_crd X Wt c).symm (Set.mem_univ κ)) $$ [Hat] with ⟨Hat, -⟩
  · isplitr; · iexact HI
    iexact Hat
  iapply (Rounds.cell_close ER (ringRd X Wt) (Set.mem_univ κ) (fun h => h) (R := 0 + 1) (duties_later X Wt (crdC c)))
  isplitr; · iexact HI
  iexact Hat

/-! ## The handshake -/

theorem wp_greet (c : Dev nD) (k : P F) (Q : PUnit → sProp 𝕄) :
    iprop(knowC X Wt (barC c) ∗ knowC X Wt (barC (prv c)) ∗ knowC X Wt (barC (nxt c)) ∗ levAts L lv
        ∗ atPos ER (barC c) 0 ∅ 0 ∗ dutyTok ER (barC (prv c)) 0 0 ∗ dutyTok ER (barC (nxt c)) 0 1 ∗ cred (tallyAt (barC c) 0 2)
        ∗ relF c 0 ∗ own c 0)
      ⊢ iprop(((relF (nxt c) 0 ∗ own c 2 ∗ semVal (barC c) 0) -∗ WP c k Q) -∗ WP c (greet c k) Q) := by
  unfold greet
  simp only [semWaitWord, semSignalWord, Prog.lift, Prog.bind_op, Prog.bind_ret]
  rw [dev1_eq c, dev2_eq c]
  unfold knowC own
  iintro ⟨⟨%κ₁, #HI1, #HR1⟩, ⟨%κ₂, #HI2, #HR2⟩, ⟨%κ₃, #HI3, #HR3⟩, #Hlev, Hat, Hd1, Hd2, Hc, #Hrel, ⟨%W, HO⟩⟩ Hk
  iapply (Rounds.wp_signal 𝒱₀ ER (ringRd X Wt) (c : Thread nD τ) none (dst := (prv c : Thread nD τ)) (κ := κ₂)
      (d := 0) (by rw [duties_bar]; decide) (amount_reg X Wt (prv c) barS 0) 0 (Ow c 1) (show Ow c 0 = Ow c 1 + tallyAt (barC (prv c)) 0 1 from Ow_step c 0 (by decide)))
    $$ [HO Hd1]
  · isplitr; · iexact HI2
    isplitl [HO]; · iexact HO
    isplitl [Hd1]; · iexact Hd1
    isplitr
    · rw [pay_bar0 X Wt (prv c), nxt_prv]; iexact Hrel
    iexact HR2
  iintro HO
  iapply (Rounds.wp_signal 𝒱₀ ER (ringRd X Wt) (c : Thread nD τ) none (dst := (nxt c : Thread nD τ)) (κ := κ₃)
      (d := 1) (by rw [duties_bar]; decide) (amount_reg X Wt (nxt c) barS 1) 0 (Ow c 2) (show Ow c 1 = Ow c 2 + tallyAt (barC (nxt c)) 0 1 from Ow_step c 1 (by decide)))
    $$ [HO Hd2]
  · isplitr; · iexact HI3
    isplitl [HO]; · iexact HO
    isplitl [Hd2]; · iexact Hd2
    isplitr
    · rw [pay_bar1 X Wt (nxt c)]; iempintro
    iexact HR3
  iintro HO
  iapply (Rounds.wp_wait_rest_token 𝒱₀ ER (ringRd X Wt) (c : Thread nD τ) none (κ := κ₁)
      (wpE_semWait_eq 𝒱₀ (c : Thread nD τ) none Set.univ) (Set.mem_univ _) 0 (O := Ow c 2) (W := W) (R := 0) (m := 0) (T := ∅)
      (by rw [expect_bar]; decide)) $$ [Hc HO Hat]
  · isplitr; · iexact HI1
    isplitl [Hc]; · iexact Hc
    isplitl [HO]; · iexact HO
    isplitr; · iapply (mayOwe c (.reg barS) 0 2 (by decide) (by decide)); iexact Hlev
    iexact Hat
  iintro ⟨HO, Hat, -, Hpay⟩
  ihave Hp := (Entails.of_eq (rest_bar X Wt c)) $$ Hpay
  icases Hp with ⟨#HrelN, -⟩
  imod (Rounds.cell_close ER (ringRd X Wt) (Set.mem_univ κ₁) (fun h => h) (R := 0 + 1) (duties_later X Wt (barC c))) $$ [Hat] with Hz
  · isplitr; · iexact HI1
    iexact Hat
  iapply Hk
  isplitr; · iexact HrelN
  isplitl [HO]; · iexists _; iexact HO
  iexact Hz

end Messages

end Cert.Ring

end
-- ==== Proof.Body.lean ====
/-
The body of one device: what it holds before every step of the ring, and each step from one such state to the next.
-/
module

public import proofs.«01_k».proof.Proof.Steps

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

variable (X : Dev nD → Vec F S4096x512 .bf16) (Wt : Dev nD → Vec F S512x2048 .bf16)

/-! ## What every device knows -/

/-- A device's cells: the barrier, the credits, fourteen send and fourteen receive semaphores. -/
def csem (i : Fin 30) : SemLoc sig :=
  if h : i.val = 0 then .reg barS else if h : i.val = 1 then .reg crdS
  else .dma ⟨i.val + 1, by have := i.isLt; show _ < 31; omega⟩
abbrev kcell (p : Dev nD × Fin 30) : GSem nD τ sig := ((p.1 : Thread nD τ), csem p.2)

def know : sProp 𝕄 :=
  iprop((bigSep Finset.univ fun p : Dev nD × Fin 30 => knowC X Wt (kcell p)) ∗ (bigSep Finset.univ fun k : Key => knowS (F := F) k) ∗ levAts L lv)
instance know_persistent : BI.Persistent (know X Wt) := by unfold know; infer_instance

theorem know_cell (p : Dev nD × Fin 30) : know X Wt ⊢ knowC X Wt (kcell p) := by
  have h : (bigSep Finset.univ fun p : Dev nD × Fin 30 => knowC X Wt (kcell p)) ⊢ knowC X Wt (kcell p) := bigSep_elim (Finset.mem_univ p)
  unfold know; iintro ⟨#H, -⟩
  iapply h; iexact H
theorem know_slot (k : Key) : know X Wt ⊢ knowS k := by
  have h : (bigSep Finset.univ fun k : Key => knowS (F := F) k) ⊢ knowS k := bigSep_elim (Finset.mem_univ k)
  unfold know; iintro ⟨-, #H, -⟩
  iapply h; iexact H
theorem know_lev : know X Wt ⊢ levAts L lv := by unfold know; iintro ⟨-, -, H⟩; iexact H
theorem know_bar (c : Dev nD) : know X Wt ⊢ knowC X Wt (barC c) := know_cell X Wt (c, 0)
theorem know_crd (c : Dev nD) : know X Wt ⊢ knowC X Wt (crdC c) := know_cell X Wt (c, 1)
theorem know_snd (c : Dev nD) (s : ℕ) (hs : s < 14) : know X Wt ⊢ knowC X Wt (sndC s c) := by
  have h : csem ⟨2 + s, by omega⟩ = .dma (sndS s) := by interval_cases s <;> rfl
  have := know_cell X Wt (c, ⟨2 + s, by omega⟩)
  unfold kcell at this; rwa [h] at this
theorem know_rcv (c : Dev nD) (s : ℕ) (hs : s < 14) : know X Wt ⊢ knowC X Wt (rcvC s c) := by
  have h : csem ⟨16 + s, by omega⟩ = .dma (rcvS s) := by interval_cases s <;> rfl
  have := know_cell X Wt (c, ⟨16 + s, by omega⟩)
  unfold kcell at this; rwa [h] at this

/-! ## Messages sent and to be sent -/

def prog (c : Dev nD) (n : ℕ) : sProp 𝕄 := iprop((bigSep (Finset.Ico n 14) (tick c)) ∗ bigSep (Finset.range n) (tock c))

theorem prog_tick (c : Dev nD) (n : ℕ) (hn : n < 14) : prog (F := F) c n
    = iprop((tick c n ∗ bigSep (Finset.Ico (n + 1) 14) (tick c)) ∗ bigSep (Finset.range n) (tock c)) := by
  unfold prog; rw [Ico_cons hn, bigSep_cons (Ico_cons_not_mem n 14)]
theorem prog_tock (c : Dev nD) (n : ℕ) : prog (F := F) c (n + 1)
    = iprop((bigSep (Finset.Ico (n + 1) 14) (tick c)) ∗ tock c n ∗ bigSep (Finset.range n) (tock c)) := by
  unfold prog; rw [Finset.range_add_one, bigSep_cons Finset.notMem_range_self]

/-- Message `s` with what is known filled in. -/
theorem wp_msg (c : Dev nD) (s : ℕ) (hs : s < 14) (A B : Memref sig .tc .vmem S2x512x2048 .bf16) (hA : A.IsWhole) (hB : B.IsWhole) (b b' : Fin 2)
    (hsA : srcM s = A) (hsb : srcB s = b) (hdB : dstM s = B) (hdb : dstB s = b')
    (hNA : (slot A b).view.dmaCredit = N) (hNB : (slot B b').view.dmaCredit = N) (k : P F) (Q : PUnit → sProp 𝕄) :
    iprop(know X Wt ∗ released ES (nxt c, kOf s) (wno s) ∗ prog c s ∗ own c (posR s) ∗ slotP c A b (msg X Wt s c))
      ⊢ iprop(((own c (posR s + 1) ∗ slotP c A b (msg X Wt s c) ∗ slotP c B b' (msg X Wt s (prv c)) ∗ prog c (s + 1)) -∗ WP c k Q)
        -∗ WP c (comm c s A B hA hB b b' k) Q) := by
  rw [prog_tick c s hs, prog_tock c s]
  iintro ⟨#HK, #Hrel, ⟨⟨Ht, Hts⟩, Hds⟩, HO, Hsrc⟩ Hk
  iapply (wp_comm X Wt c s hs A B hA hB b b' hsA hsb hdB hdb hNA hNB k Q) $$ [Ht HO Hsrc]
  · isplitr; · iapply (know_snd X Wt c s hs); iexact HK
    isplitr; · iapply (know_rcv X Wt c s hs); iexact HK
    isplitr; · iapply (know_rcv X Wt (nxt c) s hs); iexact HK
    isplitr; · iapply (know_slot X Wt (nxt c, kOf s)); iexact HK
    isplitr; · iapply (know_lev X Wt); iexact HK
    isplitr; · iexact Hrel
    isplitl [Ht]; · iexact Ht
    isplitl [HO] <;> iassumption
  iintro ⟨HO, Hsrc, Hdst, Htock⟩
  iapply Hk
  iframe HO Hsrc Hdst Hts Htock Hds

/-! ## The staging slots -/

def stg2 (c : Dev nD) : sProp 𝕄 := bigSep Finset.univ fun b : Fin 2 => slotAny c stM b
def stg1 (c : Dev nD) (b : Fin 2) : sProp 𝕄 := bigSep (Finset.univ.erase b) fun b : Fin 2 => slotAny c stM b
theorem stg2_split (c : Dev nD) (b : Fin 2) : stg2 (F := F) c = iprop(slotAny c stM b ∗ stg1 c b) := by
  unfold stg2 stg1
  conv => lhs; rw [← Finset.insert_erase (Finset.mem_univ b), bigSep_cons (Finset.notMem_erase b _)]

/-! ## Reduce-scatter -/

theorem wp_acqRS (c : Dev nD) (h : ℕ) (hh : h < 7) (p : P F) (Q : PUnit → sProp 𝕄) :
    iprop(know X Wt ∗ relF (nxt c) 0 ∗ tak c (h - 2) ∗ own c (posR h))
      ⊢ iprop(((tak c (h + 1 - 2) ∗ own c (posR h) ∗ released ES (nxt c, kOf h) (wno h)) -∗ WP c p Q)
        -∗ WP c ((if 2 ≤ h then takeCredit else id) p) Q) := by
  by_cases h2 : 2 ≤ h
  · rw [if_pos h2, show h + 1 - 2 = (h - 2) + 1 by omega]
    have hf : frees (h - 2) = h := by unfold frees; rw [if_pos (by omega)]; omega
    iintro ⟨#HK, -, Ht, HO⟩ Hk
    iapply (wp_take X Wt c (h - 2) (posR h) (by omega) (by interval_cases h <;> decide) p Q) $$ [Ht HO]
    · isplitr; · iapply (know_crd X Wt c); iexact HK
      isplitr; · iapply (know_lev X Wt); iexact HK
      isplitl [Ht] <;> iassumption
    rw [hf]
    iexact Hk
  · rw [if_neg h2, show h + 1 - 2 = h - 2 by omega]
    iintro ⟨-, #Hrel, Ht, HO⟩ Hk
    iapply Hk
    iframe Ht HO
    iapply (relF_get (nxt c) 0 h (by omega) (by unfold gate; rw [if_pos hh]; omega)); iexact Hrel

def keepRS (c : Dev nD) (n : ℕ) : sProp 𝕄 := bigSep (Finset.Ico 5 n) fun s => slotAny c rsM (par s)
def keepAG (c : Dev nD) (n : ℕ) : sProp 𝕄 := bigSep (Finset.Ico 5 n) fun s => slotAny c agM (par s)

theorem keepRS_none (c : Dev nD) (n : ℕ) (h : n ≤ 5) : keepRS (F := F) c n = iprop(emp) := by
  unfold keepRS; rw [Finset.Ico_eq_empty (by omega)]; exact bigSep_empty
theorem keepAG_none (c : Dev nD) (n : ℕ) (h : n ≤ 5) : keepAG (F := F) c n = iprop(emp) := by
  unfold keepAG; rw [Finset.Ico_eq_empty (by omega)]; exact bigSep_empty
theorem Ico_snoc {n : ℕ} (h : 5 ≤ n) : Finset.Ico 5 (n + 1) = insert n (Finset.Ico 5 n) := by
  ext x; simp only [Finset.mem_insert, Finset.mem_Ico]; omega
theorem keepRS_succ (c : Dev nD) (n : ℕ) (h : 5 ≤ n) : keepRS (F := F) c (n + 1) = iprop(slotAny c rsM (par n) ∗ keepRS c n) := by
  unfold keepRS; rw [Ico_snoc h, bigSep_cons (fun hm => by have := (Finset.mem_Ico.mp hm).2; omega)]
theorem keepAG_succ (c : Dev nD) (n : ℕ) (h : 5 ≤ n) : keepAG (F := F) c (n + 1) = iprop(slotAny c agM (par n) ∗ keepAG c n) := by
  unfold keepAG; rw [Ico_snoc h, bigSep_cons (fun hm => by have := (Finset.mem_Ico.mp hm).2; omega)]

theorem wp_relRS (c : Dev nD) (h : ℕ) (hh : h < 7) (p : P F) (Q : PUnit → sProp 𝕄) :
    iprop(know X Wt ∗ giv c (min h 5) ∗ slotAny c rsM (par h) ∗ keepRS c h ∗ own c (posR h + 1))
      ⊢ iprop(((giv c (min (h + 1) 5) ∗ keepRS c (h + 1) ∗ own c (posR (h + 1))) -∗ WP c p Q)
        -∗ WP c ((if h ≤ 4 then giveCredit c else id) p) Q) := by
  by_cases h4 : h ≤ 4
  · rw [if_pos h4, min_eq_left (by omega), min_eq_left (by omega), keepRS_none c h (by omega), keepRS_none c (h + 1) (by omega),
      show posR h + 1 = posC h by interval_cases h <;> rfl, show posR (h + 1) = posC h + 1 by interval_cases h <;> rfl,
      show slotAny (F := F) c rsM (par h) = slotAny c (dstM (frees h)) (dstB (frees h)) by interval_cases h <;> rfl]
    iintro ⟨#HK, Hg, Hs, -, HO⟩ Hk
    iapply (wp_give X Wt c h (by omega) p Q) $$ [Hg Hs HO]
    · isplitr; · iapply (know_crd X Wt (prv c)); iexact HK
      isplitr; · iapply (know_slot X Wt (c, kOf (frees h))); iexact HK
      isplitl [Hg]; · iexact Hg
      isplitl [Hs] <;> iassumption
    iintro ⟨Hg, HO⟩
    iapply Hk
    iframe Hg HO
  · rw [if_neg h4, min_eq_right (by omega), min_eq_right (by omega), keepRS_succ c h (by omega),
      show posR h + 1 = posR (h + 1) by interval_cases h <;> first | rfl | omega]
    iintro ⟨-, Hg, Hs, Hks, HO⟩ Hk
    iapply Hk
    iframe Hg Hs Hks HO

/-- What device `c` holds before reduce-scatter step `n`. -/
def RS (c : Dev nD) (n : ℕ) : sProp 𝕄 :=
  iprop(own c (posR n) ∗ outP c (outRS X Wt c n) ∗ stg2 c ∗ prog c n ∗ tak c (n - 2) ∗ giv c (min n 5) ∗ keepRS c n)

theorem src_rs (h : Fin 7) : srcM h.val = stM ∧ srcB h.val = par h.val ∧ dstM h.val = rsM ∧ dstB h.val = par h.val := by
  fin_cases h <;> exact ⟨rfl, rfl, rfl, rfl⟩

theorem wp_rsStep (c : Dev nD) (h : Fin 7) (k : P F) (Q : PUnit → sProp 𝕄) :
    iprop(know X Wt ∗ relF (nxt c) 0 ∗ RS X Wt c h.val)
      ⊢ iprop((RS X Wt c (h.val + 1) -∗ WP c k Q) -∗ WP c (rsStep c h k) Q) := by
  have hh := h.isLt
  unfold RS rsStep
  rw [stg2_split c (par h.val)]
  iintro ⟨#HK, #Hrel, ⟨HO, Hout, ⟨Hst, Hst1⟩, Hp, Ht, Hg, Hkeep⟩⟩ Hk
  iapply (wp_loadO c (k0_off1_inb c h) _ (back c h.val) (off1_eq c h)) $$ Hout
  iintro Hout
  rw [msgRS_eq X Wt c h.val, ← msg_rs X Wt c h.val hh]
  iapply (wp_storeS c stM _ (par h.val)) $$ Hst
  iintro Hst
  iapply (wp_acqRS X Wt c h.val hh) $$ [Ht HO]
  · iframe HK Hrel Ht HO
  iintro ⟨Ht, HO, #Hfree⟩
  iapply (wp_msg X Wt c h.val (by omega) stM rsM _ _ (par h.val) (par h.val) (src_rs h).1 (src_rs h).2.1 (src_rs h).2.2.1 (src_rs h).2.2.2
    (credit_st _) (credit_rs _)) $$ [Hp HO Hst]
  · iframe HK Hfree Hp HO Hst
  iintro ⟨HO, Hst, Hr, Hp⟩
  iapply (wp_loadO c (k0_off2_inb c h) _ (back c (h.val + 1)) (off2_eq c h)) $$ Hout
  iintro Hout
  iapply (wp_loadS c rsM (par h.val)) $$ Hr
  iintro Hr
  iapply (wp_storeO c (k0_off2_inb c h) _ (back c (h.val + 1)) (off2_eq c h)) $$ Hout
  iintro Hout
  rw [msg_rs X Wt (prv c) h.val hh, ← outRS_step X Wt c h.val hh]
  ihave Hst := (slotP_any c _ _ _) $$ Hst
  ihave Hr := (slotP_any c _ _ _) $$ Hr
  iapply (wp_relRS X Wt c h.val hh) $$ [Hg Hr Hkeep HO]
  · iframe HK Hg Hr Hkeep HO
  iintro ⟨Hg, Hkeep, HO⟩
  iapply Hk
  iframe HO Hout Hst Hst1 Hp Ht Hg Hkeep

/-! ## All-gather -/

/-- Where all-gather step `n + 1` stands in the order of a device's events. -/
def posA (n : ℕ) : ℕ := min (15 + 2 * n) 26

theorem wp_acqAG (c : Dev nD) (h : ℕ) (hh : h < 6) (p : P F) (Q : PUnit → sProp 𝕄) :
    iprop(know X Wt ∗ relF (nxt c) 0 ∗ tak c (5 + (h - 1)) ∗ own c (posR (8 + h)))
      ⊢ iprop(((tak c (5 + (h + 1 - 1)) ∗ own c (posR (8 + h)) ∗ released ES (nxt c, kOf (8 + h)) (wno (8 + h))) -∗ WP c p Q)
        -∗ WP c ((if 1 ≤ h then takeCredit else id) p) Q) := by
  by_cases h1 : 1 ≤ h
  · rw [if_pos h1, show 5 + (h + 1 - 1) = 5 + (h - 1) + 1 by omega]
    have hf : frees (5 + (h - 1)) = 8 + h := by unfold frees; rw [if_neg (by omega)]; omega
    iintro ⟨#HK, -, Ht, HO⟩ Hk
    iapply (wp_take X Wt c (5 + (h - 1)) (posR (8 + h)) (by omega) (by interval_cases h <;> decide) p Q) $$ [Ht HO]
    · isplitr; · iapply (know_crd X Wt c); iexact HK
      isplitr; · iapply (know_lev X Wt); iexact HK
      isplitl [Ht] <;> iassumption
    rw [hf]
    iexact Hk
  · obtain rfl : h = 0 := by omega
    rw [if_neg h1]
    iintro ⟨-, #Hrel, Ht, HO⟩ Hk
    iapply Hk
    iframe Ht HO
    iapply (relF_get (nxt c) 0 8 (by decide) (by decide)); iexact Hrel

theorem wp_relAG (c : Dev nD) (h : ℕ) (hh : h < 6) (p : P F) (Q : PUnit → sProp 𝕄) :
    iprop(know X Wt ∗ giv c (min (5 + h) 10) ∗ slotAny c agM (par h) ∗ keepAG c h ∗ own c (posR (8 + h) + 1))
      ⊢ iprop(((giv c (min (5 + (h + 1)) 10) ∗ keepAG c (h + 1) ∗ own c (posA (h + 1))) -∗ WP c p Q)
        -∗ WP c ((if h ≤ 4 then giveCredit c else id) p) Q) := by
  by_cases h4 : h ≤ 4
  · rw [if_pos h4, min_eq_left (by omega), min_eq_left (by omega), keepAG_none c h (by omega), keepAG_none c (h + 1) (by omega),
      show posR (8 + h) + 1 = posC (5 + h) by interval_cases h <;> rfl, show posA (h + 1) = posC (5 + h) + 1 by interval_cases h <;> rfl,
      show slotAny (F := F) c agM (par h) = slotAny c (dstM (frees (5 + h))) (dstB (frees (5 + h))) by interval_cases h <;> rfl]
    iintro ⟨#HK, Hg, Hs, -, HO⟩ Hk
    iapply (wp_give X Wt c (5 + h) (by omega) p Q) $$ [Hg Hs HO]
    · isplitr; · iapply (know_crd X Wt (prv c)); iexact HK
      isplitr; · iapply (know_slot X Wt (c, kOf (frees (5 + h)))); iexact HK
      isplitl [Hg]; · iexact Hg
      isplitl [Hs] <;> iassumption
    iintro ⟨Hg, HO⟩
    iapply Hk
    iframe Hg HO
  · obtain rfl : h = 5 := by omega
    rw [if_neg h4, keepAG_succ c 5 le_rfl]
    iintro ⟨-, Hg, Hs, Hks, HO⟩ Hk
    iapply Hk
    iframe Hg Hs Hks HO

/-- What device `c` holds before all-gather step `n + 1`. -/
def AG (c : Dev nD) (n : ℕ) : sProp 𝕄 :=
  iprop(own c (posA n) ∗ outP c (outAG X Wt c (n + 1)) ∗ stg2 c ∗ slotP c agM (par n) (msg X Wt (7 + n) (prv c)) ∗ prog c (8 + n)
    ∗ tak c (5 + (n - 1)) ∗ giv c (min (5 + n) 10) ∗ keepRS c 7 ∗ keepAG c n)

theorem wp_agFirst (c : Dev nD) (k : P F) (Q : PUnit → sProp 𝕄) :
    iprop(know X Wt ∗ relF (nxt c) 0 ∗ RS X Wt c 7) ⊢ iprop((AG X Wt c 0 -∗ WP c k Q) -∗ WP c (agFirst c k) Q) := by
  unfold RS AG agFirst
  rw [stg2_split c 0]
  iintro ⟨#HK, #Hrel, ⟨HO, Hout, ⟨Hst, Hst1⟩, Hp, Ht, Hg, Hkeep⟩⟩ Hk
  iapply (wp_loadO c (k0_off3_inb c) _ (nxt c) (off3_eq c)) $$ Hout
  iintro Hout
  iapply (wp_storeO c (k0_off3_inb c) _ (nxt c) (off3_eq c)) $$ Hout
  iintro Hout
  have hm : k0_pay29 (k0_pay28 (outRS X Wt c 7 (nxt c))) = msg X Wt 7 c := by
    rw [show (7 : ℕ) = 7 + 0 from rfl, msg_ag X Wt c 0, back_zero]; rfl
  rw [hm]
  iapply (wp_storeS c stM _ 0) $$ Hst
  iintro Hst
  ihave #Hfree := (relF_get (F := F) (nxt c) 0 7 (by decide) (by decide)) $$ Hrel
  iapply (wp_msg X Wt c 7 (by decide) stM agM _ _ 0 0 rfl rfl rfl rfl (credit_st _) (credit_ag _)) $$ [Hp HO Hst]
  · isplitr; · iexact HK
    isplitr; · iexact Hfree
    isplitl [Hp]; · iexact Hp
    isplitl [HO] <;> iassumption
  iintro ⟨HO, Hst, Hr, Hp⟩
  iapply (wp_loadS c agM 0) $$ Hr
  iintro Hr
  iapply (wp_storeO c (k0_off1_inb c 0) _ (back c 0) (off1_eq c 0)) $$ Hout
  iintro Hout
  have ho : Function.update (Function.update (outRS X Wt c 7) (nxt c) (k0_pay27 (outRS X Wt c 7 (nxt c)))) (back c 0) (k0_pay30 (msg X Wt 7 (prv c)))
      = outAG X Wt c (0 + 1) := by
    rw [show (7 : ℕ) = 7 + 0 from rfl, msg_ag_prv X Wt c 0]; rfl
  rw [ho]
  ihave Hst := (slotP_any c _ _ _) $$ Hst
  iapply Hk
  rw [keepAG_none c 0 (by decide)]
  isplitl [HO]; · iexact HO
  isplitl [Hout]; · iexact Hout
  isplitl [Hst Hst1]
  · isplitl [Hst] <;> iassumption
  isplitl [Hr]; · iexact Hr
  isplitl [Hp]; · iexact Hp
  isplitl [Ht]; · iexact Ht
  isplitl [Hg]; · iexact Hg
  isplitl [Hkeep]; · iexact Hkeep
  iempintro

theorem src_ag (h : Fin 6) :
    srcM (8 + h.val) = agM ∧ srcB (8 + h.val) = par h.val ∧ dstM (8 + h.val) = agM ∧ dstB (8 + h.val) = par (h.val + 1) := by
  fin_cases h <;> exact ⟨rfl, rfl, rfl, rfl⟩

theorem wp_agStep (c : Dev nD) (h : Fin 6) (k : P F) (Q : PUnit → sProp 𝕄) :
    iprop(know X Wt ∗ relF (nxt c) 0 ∗ AG X Wt c h.val) ⊢ iprop((AG X Wt c (h.val + 1) -∗ WP c k Q) -∗ WP c (agStep c h k) Q) := by
  have hh := h.isLt
  have hm : msg X Wt (7 + h.val) (prv c) = msg X Wt (8 + h.val) c := by
    rw [msg_ag_prv, show 8 + h.val = 7 + (h.val + 1) by omega, msg_ag]
  have ho : Function.update (outAG X Wt c (h.val + 1)) (back c (h.val + 1)) (k0_pay30 (msg X Wt (8 + h.val) (prv c)))
      = outAG X Wt c (h.val + 1 + 1) := by
    rw [show 8 + h.val = 7 + (h.val + 1) by omega, msg_ag_prv]; rfl
  unfold AG agStep
  rw [hm, show posA h.val = posR (8 + h.val) by fin_cases h <;> rfl, show 7 + (h.val + 1) = 8 + h.val by omega]
  iintro ⟨#HK, #Hrel, ⟨HO, Hout, Hst, Hs, Hp, Ht, Hg, Hkeep, Hkag⟩⟩ Hk
  iapply (wp_acqAG X Wt c h.val hh) $$ [Ht HO]
  · iframe HK Hrel Ht HO
  iintro ⟨Ht, HO, #Hfree⟩
  iapply (wp_msg X Wt c (8 + h.val) (by omega) agM agM _ _ (par h.val) (par (h.val + 1)) (src_ag h).1 (src_ag h).2.1 (src_ag h).2.2.1 (src_ag h).2.2.2
    (credit_ag _) (credit_ag _)) $$ [Hp HO Hs]
  · iframe HK Hfree Hp HO Hs
  iintro ⟨HO, Hs, Hr, Hp⟩
  iapply (wp_loadS c agM (par (h.val + 1))) $$ Hr
  iintro Hr
  iapply (wp_storeO c (k0_off1_inb c h.succ) _ (back c (h.val + 1)) (off1_eq c h.succ)) $$ Hout
  iintro Hout
  rw [ho]
  ihave Hs := (slotP_any c _ _ _) $$ Hs
  iapply (wp_relAG X Wt c h.val hh) $$ [Hg Hs Hkag HO]
  · iframe HK Hg Hs Hkag HO
  iintro ⟨Hg, Hkag, HO⟩
  iapply Hk
  iframe HO Hout Hst Hr Hp Ht Hg Hkeep Hkag

/-! ## The products -/

/-- The result's row blocks after `n` block products over what was there. -/
def outP0 (c : Dev nD) (g : Rows F) (n : ℕ) : Rows F := fun b => if b.val < n then prod X Wt c b else g b

theorem outP0_succ (c : Dev nD) (g : Rows F) (r : Fin 8) : Function.update (outP0 X Wt c g r.val) r (prod X Wt c r) = outP0 X Wt c g (r.val + 1) := by
  funext b
  unfold outP0
  by_cases h : b = r
  · subst h; rw [Function.update_self, if_pos (Nat.lt_succ_self _)]
  · rw [Function.update_of_ne h]
    have hne : b.val ≠ r.val := fun he => h (Fin.ext he)
    by_cases hlt : b.val < r.val
    · rw [if_pos hlt, if_pos (by omega)]
    · rw [if_neg hlt, if_neg (by omega)]

def xP (c : Dev nD) : sProp 𝕄 := ((c : Thread nD τ).loc cc0_stg0_0) ↦{fullShare} X c
def wP (c : Dev nD) : sProp 𝕄 := ((c : Thread nD τ).loc cc0_stg1_0) ↦{fullShare} Wt c

theorem wp_prodStep (c : Dev nD) (g : Rows F) (r : Fin 8) (k : P F) (Q : PUnit → sProp 𝕄) :
    iprop(xP X c ∗ outP c (outP0 X Wt c g r.val))
      ⊢ iprop(((xP X c ∗ outP c (outP0 X Wt c g (r.val + 1))) -∗ WP c k Q) -∗ WP c (prodStep (Wt c) r k) Q) := by
  unfold prodStep xP
  simp only [Prog.lift, Prog.bind_op, Prog.bind_ret]
  iintro ⟨Hx, Hout⟩ Hk
  iapply (wp_load 𝒱₀ (c : Thread nD τ) none Set.univ (m := xM) (Finset.subset_univ _)) $$ Hx
  iintro Hx
  iapply (wp_storeO c (pr_inb r) _ r rfl) $$ Hout
  iintro Hout
  rw [← outP0_succ X Wt c g r]
  iapply Hk
  isplitl [Hx]; · iexact Hx
  iexact Hout

end Cert.Ring

end
-- ==== Proof.Whole.lean ====
/-
The whole body of one device: from what the launch gives it to the finished result, everything given back.
-/
module

public import proofs.«01_k».proof.Proof.Body

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

/-! ## A two-slot buffer and its slots -/

/-- A whole two-slot buffer, at any contents. -/
def scr (c : Dev nD) (M : Memref sig .tc .vmem S2x512x2048 .bf16) : sProp 𝕄 :=
  Release.slot (M.view.loc (c : Thread nD τ)) M.view.set

theorem mem_sr (b : Fin 2) (i : S2x512x2048.Idx) : i ∈ (sr b).set ↔ (i 0).val = b.val := by
  rw [← Rect.map_emb_univ]
  constructor
  · intro h
    obtain ⟨x, -, rfl⟩ := Finset.mem_map.mp h
    show b.val + 1 * (x 0).val = b.val
    have : (x 0).val < 1 := (x 0).isLt
    omega
  · intro h
    refine Finset.mem_map.mpr ⟨fun a => match a with
      | ⟨0, _⟩ => ⟨0, Nat.one_pos⟩
      | ⟨1, _⟩ => ⟨(i 1).val, (i 1).isLt⟩
      | ⟨2, _⟩ => ⟨(i 2).val, (i 2).isLt⟩, Finset.mem_univ _, ?_⟩
    funext a; apply Fin.ext
    fin_cases a
    · show b.val + 1 * 0 = (i 0).val
      omega
    · show 0 + 1 * (i 1).val = (i 1).val
      omega
    · show 0 + 1 * (i 2).val = (i 2).val
      omega

theorem sr_union : (sr 0).set ∪ (sr 1).set = Finset.univ := by
  ext i
  rw [Finset.mem_union, mem_sr, mem_sr]
  have h : (i 0).val < 2 := (i 0).isLt
  exact ⟨fun _ => Finset.mem_univ _, fun _ => (show (i 0).val = 0 ∨ (i 0).val = 1 by omega)⟩
theorem sr_disjoint : Disjoint (sr 0).set (sr 1).set := by
  rw [Finset.disjoint_left]
  intro i h0 h1
  rw [mem_sr] at h0 h1
  rw [h0] at h1
  exact absurd h1 (by decide)

theorem slab_union (M : Memref sig .tc .vmem S2x512x2048 .bf16) : (slab M 0).view.set ∪ (slab M 1).view.set = M.view.set := by
  rw [slab_set, slab_set, ← Finset.map_union, sr_union]; rfl
theorem slab_disjoint (M : Memref sig .tc .vmem S2x512x2048 .bf16) : Disjoint (slab M 0).view.set (slab M 1).view.set := by
  rw [slab_set, slab_set, Finset.disjoint_map]; exact sr_disjoint

theorem scr_split (c : Dev nD) (M : Memref sig .tc .vmem S2x512x2048 .bf16) : scr (F := F) c M ⊢ iprop(slotAny c M 0 ∗ slotAny c M 1) := by
  unfold scr slotAny Release.slot
  iintro ⟨%f, H⟩
  rw [← slab_union]
  ihave H := (pointsTo_union (slab_disjoint M)).1 $$ H
  icases H with ⟨H0, H1⟩
  isplitl [H0] <;> iexists f <;> iassumption
theorem scr_join (c : Dev nD) (M : Memref sig .tc .vmem S2x512x2048 .bf16) : iprop(slotAny c M 0 ∗ slotAny c M 1) ⊢ scr (F := F) c M := by
  unfold scr slotAny Release.slot
  iintro ⟨⟨%f, H0⟩, ⟨%g, H1⟩⟩
  ihave H := (pointsTo_join (ℓ := M.view.loc (c : Thread nD τ)) (I := (slab M 0).view.set) (J := (slab M 1).view.set) (slab_disjoint M)) $$ [H0 H1]
  · isplitl [H0] <;> iassumption
  rw [slab_union]
  iexists _; iexact H

theorem stg2_two (c : Dev nD) : stg2 (F := F) c = iprop(slotAny c stM 0 ∗ slotAny c stM 1) :=
  bigSep_univ_eq_bigSepL [0, 1] (by decide) (by decide) _

variable (X : Dev nD → Vec F S4096x512 .bf16) (Wt : Dev nD → Vec F S512x2048 .bf16)

/-! ## The first deposit of the four receiving slots -/

theorem deposit (c : Dev nD) (k : Fin 4) :
    iprop(know X Wt ∗ readerAt ES (c, k) 0 ∗ slotAny c (keyM k) (keyB k))
      ⊢ iprop(|={Set.univ}=> (readerAt ES (c, k) 1 ∗ released ES (c, k) 1)) := by
  iintro ⟨#HK, Hr, Hs⟩
  ihave #Hk := (know_slot X Wt (c, k)) $$ HK
  unfold knowS
  icases Hk with ⟨%ι, #HI⟩
  iapply (Release.slot_release ES (Set.mem_univ ι) (slotAny_false c (keyM k) (keyB k)) 0)
  isplitr; · iexact HI
  isplitl [Hr] <;> iassumption

theorem deposits (c : Dev nD) :
    iprop(know X Wt ∗ (bigSep Finset.univ fun k : Fin 4 => readerAt ES (c, k) 0) ∗ scr c rsM ∗ scr c agM)
      ⊢ iprop(|={Set.univ}=> (rdr c 0 ∗ relF c 0)) := by
  have hr : rdr (F := F) c 0 = iprop(readerAt ES (c, 0) 1 ∗ readerAt ES (c, 1) 1 ∗ readerAt ES (c, 2) 1 ∗ readerAt ES (c, 3) 1) := by
    unfold rdr
    rw [show (fun k : Fin 4 => (readerAt ES (c, k) (cnt k 0) : sProp 𝕄)) = fun k => readerAt ES (c, k) 1 from
      funext fun k => by rw [show cnt k 0 = 1 by revert k; decide]]
    exact bigSep_univ_eq_bigSepL [0, 1, 2, 3] (by decide) (by decide) _
  have h0 : (bigSep Finset.univ fun k : Fin 4 => readerAt ES (c, k) 0 : sProp 𝕄)
      = iprop(readerAt ES (c, 0) 0 ∗ readerAt ES (c, 1) 0 ∗ readerAt ES (c, 2) 0 ∗ readerAt ES (c, 3) 0) :=
    bigSep_univ_eq_bigSepL [0, 1, 2, 3] (by decide) (by decide) _
  have hf : relF (F := F) c 0 = iprop(released ES (c, 0) 1 ∗ released ES (c, 1) 1 ∗ released ES (c, 2) 1 ∗ released ES (c, 3) 1) := by
    unfold relF
    rw [bigSep_eq_bigSepL_of_eq (S := (Finset.range 14).filter fun s => gate s ≤ 0) [0, 1, 7, 8] (by decide) (by decide)]
    simp only [bigSepL, show kOf 0 = 0 from rfl, show kOf 1 = 1 from rfl, show kOf 7 = 2 from rfl, show kOf 8 = 3 from rfl,
      show wno 0 = 1 from rfl, show wno 1 = 1 from rfl, show wno 7 = 1 from rfl, show wno 8 = 1 from rfl]
    rfl
  rw [hr, h0, hf]
  iintro ⟨#HK, ⟨R0, R1, R2, R3⟩, Hrs, Hag⟩
  ihave Hrs := (scr_split c rsM) $$ Hrs
  ihave Hag := (scr_split c agM) $$ Hag
  icases Hrs with ⟨S0, S1⟩
  icases Hag with ⟨S2, S3⟩
  imod (deposit X Wt c 0) $$ [R0 S0] with ⟨R0, #F0⟩
  · isplitr; · iexact HK
    isplitl [R0]; · iexact R0
    iexact S0
  imod (deposit X Wt c 1) $$ [R1 S1] with ⟨R1, #F1⟩
  · isplitr; · iexact HK
    isplitl [R1]; · iexact R1
    iexact S1
  imod (deposit X Wt c 2) $$ [R2 S2] with ⟨R2, #F2⟩
  · isplitr; · iexact HK
    isplitl [R2]; · iexact R2
    iexact S2
  imod (deposit X Wt c 3) $$ [R3 S3] with ⟨R3, #F3⟩
  · isplitr; · iexact HK
    isplitl [R3]; · iexact R3
    iexact S3
  imodintro
  iframe R0 R1 R2 R3 F0 F1 F2 F3

/-! ## The three phases -/

theorem wp_products (c : Dev nD) (g : Rows F) (k : P F) (Q : PUnit → sProp 𝕄) :
    iprop(xP X c ∗ wP Wt c ∗ outP c g)
      ⊢ iprop(((xP X c ∗ wP Wt c ∗ outP c (outRS X Wt c 0)) -∗ WP c k Q) -∗ WP c (products k) Q) := by
  have hz : outP0 X Wt c g 0 = g := funext fun b => if_neg (Nat.not_lt_zero _)
  have h8 : outP0 X Wt c g 8 = outRS X Wt c 0 := funext fun b => if_pos b.isLt
  have hw : wM.view.readAt (Elt F) wr.toLoadRect (Wt c) = Wt c :=
    Memref.readAt_unit_zero (Elt F) cc0_stg1_0 (by funext a; fin_cases a <;> rfl) inb_S512x2048_S512x2048_0_0 (Wt c)
  have step (r : Fin 8) (n n' : ℕ) (hn : r.val = n) (hn' : n + 1 = n') (p : P F) : iprop(xP X c ∗ outP c (outP0 X Wt c g n))
      ⊢ iprop(((xP X c ∗ outP c (outP0 X Wt c g n')) -∗ WP c p Q) -∗ WP c (prodStep (Wt c) r p) Q) := by
    subst hn hn'; exact wp_prodStep X Wt c g r p Q
  unfold products wP
  simp only [Prog.lift, Prog.bind_op, Prog.bind_ret]
  iintro ⟨Hx, Hw, Hout⟩ Hk
  iapply (wp_load 𝒱₀ (c : Thread nD τ) none Set.univ (m := wM) (Finset.subset_univ _)) $$ Hw
  iintro Hw
  rw [hw]
  ihave H : iprop(xP X c ∗ outP c (outP0 X Wt c g 0)) $$ [Hx Hout]
  · rw [hz]; isplitl [Hx] <;> iassumption
  iapply (step 0 0 1 rfl rfl _) $$ H; iintro H
  iapply (step 1 1 2 rfl rfl _) $$ H; iintro H
  iapply (step 2 2 3 rfl rfl _) $$ H; iintro H
  iapply (step 3 3 4 rfl rfl _) $$ H; iintro H
  iapply (step 4 4 5 rfl rfl _) $$ H; iintro H
  iapply (step 5 5 6 rfl rfl _) $$ H; iintro H
  iapply (step 6 6 7 rfl rfl _) $$ H; iintro H
  iapply (step 7 7 8 rfl rfl _) $$ H; iintro ⟨Hx, Hout⟩
  iapply Hk
  isplitl [Hx]; · iexact Hx
  isplitl [Hw]; · iexact Hw
  rw [← h8]; iexact Hout

theorem wp_reduce (c : Dev nD) (k : P F) (Q : PUnit → sProp 𝕄) :
    iprop(know X Wt ∗ relF (nxt c) 0 ∗ RS X Wt c 0) ⊢ iprop((RS X Wt c 7 -∗ WP c k Q) -∗ WP c (reduce c k) Q) := by
  have step (h : Fin 7) (n n' : ℕ) (hn : h.val = n) (hn' : n + 1 = n') (p : P F) : iprop(know X Wt ∗ relF (nxt c) 0)
      ⊢ iprop(RS X Wt c n -∗ (RS X Wt c n' -∗ WP c p Q) -∗ WP c (rsStep c h p) Q) := by
    subst hn hn'
    iintro ⟨#HK, #Hrel⟩ H
    iapply (wp_rsStep X Wt c h p Q)
    isplitr; · iexact HK
    isplitr; · iexact Hrel
    iexact H
  unfold reduce
  iintro ⟨#HK, #Hrel, H⟩ Hk
  ihave #HP : iprop(know X Wt ∗ relF (nxt c) 0) $$ []
  · isplitr <;> iassumption
  iapply (step 0 0 1 rfl rfl _) $$ HP H; iintro H
  iapply (step 1 1 2 rfl rfl _) $$ HP H; iintro H
  iapply (step 2 2 3 rfl rfl _) $$ HP H; iintro H
  iapply (step 3 3 4 rfl rfl _) $$ HP H; iintro H
  iapply (step 4 4 5 rfl rfl _) $$ HP H; iintro H
  iapply (step 5 5 6 rfl rfl _) $$ HP H; iintro H
  iapply (step 6 6 7 rfl rfl _) $$ HP H
  iexact Hk

theorem wp_gather (c : Dev nD) (k : P F) (Q : PUnit → sProp 𝕄) :
    iprop(know X Wt ∗ relF (nxt c) 0 ∗ RS X Wt c 7) ⊢ iprop((AG X Wt c 6 -∗ WP c k Q) -∗ WP c (gather c k) Q) := by
  have step (h : Fin 6) (n n' : ℕ) (hn : h.val = n) (hn' : n + 1 = n') (p : P F) : iprop(know X Wt ∗ relF (nxt c) 0)
      ⊢ iprop(AG X Wt c n -∗ (AG X Wt c n' -∗ WP c p Q) -∗ WP c (agStep c h p) Q) := by
    subst hn hn'
    iintro ⟨#HK, #Hrel⟩ H
    iapply (wp_agStep X Wt c h p Q)
    isplitr; · iexact HK
    isplitr; · iexact Hrel
    iexact H
  unfold gather
  iintro ⟨#HK, #Hrel, H⟩ Hk
  ihave #HP : iprop(know X Wt ∗ relF (nxt c) 0) $$ []
  · isplitr <;> iassumption
  iapply (wp_agFirst X Wt c _ Q) $$ [H]
  · isplitr; · iexact HK
    isplitr; · iexact Hrel
    iexact H
  iintro H
  iapply (step 0 0 1 rfl rfl _) $$ HP H; iintro H
  iapply (step 1 1 2 rfl rfl _) $$ HP H; iintro H
  iapply (step 2 2 3 rfl rfl _) $$ HP H; iintro H
  iapply (step 3 3 4 rfl rfl _) $$ HP H; iintro H
  iapply (step 4 4 5 rfl rfl _) $$ HP H; iintro H
  iapply (step 5 5 6 rfl rfl _) $$ HP H
  iexact Hk

/-! ## The whole body -/

/-- What the launch gives a device, its buffers aside. -/
def entry (c : Dev nD) : sProp 𝕄 :=
  iprop((atPos ER (barC c) 0 ∅ 0 ∗ dutyTok ER (barC (prv c)) 0 0 ∗ dutyTok ER (barC (nxt c)) 0 1 ∗ cred (tallyAt (barC c) 0 2))
    ∗ (atPos ER (crdC c) 0 ∅ 0 ∗ (bigSep (Finset.Ico 0 10) fun j => cred (tallyAt (crdC c) j 1))
      ∗ bigSep (Finset.Ico 0 10) fun j => dutyTok ER (crdC (prv c)) 0 j)
    ∗ bigSep (Finset.Ico 0 14) (tick c) ∗ bigSep Finset.univ fun k : Fin 4 => readerAt ES (c, k) 0)

/-- What it gives back: its scratch buffers and its semaphores, at zero. -/
def exitP (c : Dev nD) : sProp 𝕄 :=
  iprop((scr c stM ∗ scr c rsM ∗ scr c agM) ∗ semVal (barC c) 0 ∗ semVal (crdC c) 0 ∗ bigSep (Finset.range 14) (tock c))

theorem leave (c : Dev nD) : iprop(know X Wt ∗ semVal (barC c) 0 ∗ AG X Wt c 6)
    ⊢ iprop(|={Set.univ}=> (own c 26 ∗ outP c (outAG X Wt c 7) ∗ exitP c)) := by
  have hk : keepRS (F := F) c 7 = iprop(slotAny c rsM 0 ∗ slotAny c rsM 1 ∗ emp) := by
    rw [keepRS_succ c 6 (by decide), keepRS_succ c 5 (by decide), keepRS_none c 5 (by decide)]; rfl
  have hg : keepAG (F := F) c 6 = iprop(slotAny c agM 1 ∗ emp) := by
    rw [keepAG_succ c 5 (by decide), keepAG_none c 5 (by decide)]; rfl
  unfold AG exitP prog
  rw [hk, hg, stg2_two]
  iintro ⟨#HK, Hbar, ⟨HO, Hout, Hst, Ha0, ⟨-, Htock⟩, Ht, -, ⟨Hr0, Hr1, -⟩, ⟨Ha1, -⟩⟩⟩
  ihave Hst := (scr_join c stM) $$ Hst
  ihave Hrs := (scr_join c rsM) $$ [Hr0 Hr1]
  · isplitl [Hr0] <;> iassumption
  ihave Ha0 := (slotP_any c _ _ _) $$ Ha0
  ihave Hag := (scr_join c agM) $$ [Ha0 Ha1]
  · isplitl [Ha0]; · iexact Ha0
    iexact Ha1
  ihave #HC := (know_crd X Wt c) $$ HK
  imod (tak_end X Wt c) $$ [Ht] with Hcrd
  · isplitr; · iexact HC
    iexact Ht
  imodintro
  isplitl [HO]; · iexact HO
  isplitl [Hout]; · iexact Hout
  isplitl [Hst Hrs Hag]
  · iframe Hst Hrs Hag
  iframe Hbar Hcrd Htock

theorem wp_body (c : Dev nD) (g : Rows F) (Q : PUnit → sProp 𝕄) :
    iprop(know X Wt ∗ entry c ∗ own c 0 ∗ (scr c stM ∗ scr c rsM ∗ scr c agM) ∗ xP X c ∗ wP Wt c ∗ outP c g)
      ⊢ iprop(((own c 26 ∗ (xP X c ∗ wP Wt c ∗ outP c (outAG X Wt c 7)) ∗ exitP c) -∗ Q ⟨⟩) -∗ WP c body Q) := by
  unfold body entry
  simp only [Prog.lift, Prog.bind_op, Prog.bind_ret, wp_deviceId]
  iintro ⟨#HK, ⟨⟨HaB, Ht0, Ht1, HcB⟩, ⟨HaC, Hcr, Hd⟩, Htick, Hrd⟩, HO, ⟨Hst, Hrs, Hag⟩, Hx, Hw, Hout⟩ Hk
  imod (deposits X Wt c) $$ [Hrd Hrs Hag] with ⟨Hrd, #Hrel⟩
  · isplitr; · iexact HK
    isplitl [Hrd]; · iexact Hrd
    isplitl [Hrs] <;> iassumption
  ihave #K1 := (know_bar X Wt c) $$ HK
  ihave #K2 := (know_bar X Wt (prv c)) $$ HK
  ihave #K3 := (know_bar X Wt (nxt c)) $$ HK
  ihave #K4 := (know_lev X Wt) $$ HK
  iapply (wp_greet X Wt c _ Q) $$ [HaB Ht0 Ht1 HcB HO]
  · iframe K1 K2 K3 K4 HaB Ht0 Ht1 HcB Hrel HO
  iintro ⟨#Hn, HO, Hbar⟩
  iapply (wp_products X Wt c g _ Q) $$ [Hx Hw Hout]
  · isplitl [Hx]; · iexact Hx
    isplitl [Hw] <;> iassumption
  iintro ⟨Hx, Hw, Hout⟩
  ihave HRS : RS X Wt c 0 $$ [HO Hout Hst Htick HaC Hcr Hrd Hd]
  · unfold RS prog tak giv
    rw [keepRS_none c 0 (by decide), stg2_two]
    isplitl [HO]; · iexact HO
    isplitl [Hout]; · iexact Hout
    isplitl [Hst]; · iapply (scr_split c stM); iexact Hst
    isplitl [Htick]
    · isplitl [Htick]; · iexact Htick
      rw [Finset.range_zero, bigSep_empty]; iempintro
    isplitl [HaC Hcr]
    · isplitl [HaC]
      · iexists ∅
        isplitr; · ipureintro; exact ⟨Finset.empty_subset _, Nat.zero_le _⟩
        isplitl; · iexact HaC
        rw [bigSep_empty]; iempintro
      iexact Hcr
    isplitl [Hrd Hd]
    · isplitl [Hrd]; · iexact Hrd
      isplitr; · iexact Hrel
      iexact Hd
    iempintro
  iapply (wp_reduce X Wt c _ Q) $$ [HRS]
  · isplitr; · iexact HK
    isplitr; · iexact Hn
    iexact HRS
  iintro HRS
  iapply (wp_gather X Wt c _ Q) $$ [HRS]
  · isplitr; · iexact HK
    isplitr; · iexact Hn
    iexact HRS
  iintro HAG
  imod (leave X Wt c) $$ [Hbar HAG] with ⟨HO, Hout, Hex⟩
  · isplitr; · iexact HK
    isplitl [Hbar] <;> iassumption
  rw [wp_pure]; imodintro
  iapply Hk
  isplitl [HO]; · iexact HO
  isplitl [Hx Hw Hout]
  · isplitl [Hx]; · iexact Hx
    isplitl [Hw] <;> iassumption
  iexact Hex

end Cert.Ring

end
-- ==== Proof.Launch.lean ====
/-
The launch: the ghost state allotted to the eight devices and passed around the ring, the credits each one starts with,
and the run of the whole program.
-/
module

public import proofs.«01_k».proof.Proof.Whole

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellsWaits)
open Idealize.ShloMosaic.Release (USlots released readerAt writeTok slotInv)

variable {F : FTy → Type} [FloatOps F]

local notation "𝕄" => MT nD τ sig ℕ (Elt F) ℕ UU ℕ

variable (m : (ℓ : Loc nD τ sig) → Buf (Elt F) ℓ) (ρ : Dev nD → PrngReg)

def s₀ : MemSt nD τ sig (Elt F) := ⟨m, fun _ => 0, ρ⟩

/-- The staged operands of device `c`. -/
def Xs (c : Dev nD) : Vec F S4096x512 .bf16 := (win0_0.blk (0 : Fin 1)).view.read (Elt F) (m ((c : Thread nD τ).loc main_arg0))
def Ws (c : Dev nD) : Vec F S512x2048 .bf16 := (win0_1.blk (0 : Fin 1)).view.read (Elt F) (m ((c : Thread nD τ).loc main_arg1))
/-- The result of device `c`. -/
def res (c : Dev nD) : (cc0_stg2_0 : Ref sig .tc).ty.Contents (Elt F) := asm (outAG (Xs m) (Ws m) c 7)

/-! ## Cells and tokens -/

theorem csem_injective : Function.Injective csem := by
  intro i j h
  unfold csem at h
  have hi := i.isLt
  have hj := j.isLt
  have hbc : (SemLoc.reg barS : SemLoc sig) ≠ .reg crdS := by decide
  split_ifs at h with h1 h2 h3 h4 h5 h6
  all_goals first
    | (apply Fin.ext; omega)
    | exact absurd h hbc
    | exact absurd h.symm hbc
    | (have := congrArg Fin.val (SemLoc.dma.inj h)
       apply Fin.ext
       dsimp only at this
       omega)
    | exact SemLoc.noConfusion h

theorem kcell_injective : Function.Injective (kcell : Dev nD × Fin 30 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- Ten tokens of every cell; a cell with fewer duties leaves the rest unused. -/
abbrev tokOf (x : Dev nD × Fin 30 × Fin 10) : GSem nD τ sig × ℕ × ℕ := (kcell (x.1, x.2.1), 0, x.2.2.val)
theorem tokOf_injective : Function.Injective tokOf := by
  rintro ⟨c, i, d⟩ ⟨c', i', d'⟩ h
  have h1 : ((c, i) : Dev nD × Fin 30) = (c', i') := kcell_injective (congrArg Prod.fst h)
  have h2 : d = d' := Fin.ext (congrArg (fun x : GSem nD τ sig × ℕ × ℕ => x.2.2) h)
  obtain ⟨rfl, rfl⟩ := Prod.mk.inj h1
  rw [h2]
def ringToks : Finset (GSem nD τ sig × ℕ × ℕ) := Finset.univ.map ⟨tokOf, tokOf_injective⟩

def u₀ : UU :=
  (initOf (Pipeline.cells cfgs cellOf_inj) (Pipeline.launchToks cfgs cellOf_inj), (initOf ringCells ringToks, Release.initSlots (Finset.univ : Finset Key) 4))

/-- Device `c`'s cells, one kind at a time. -/
theorem cells_split (c : Dev nD) (Φ : GSem nD τ sig → sProp 𝕄) :
    (bigSep Finset.univ fun i : Fin 30 => Φ (kcell (c, i)))
      = iprop(Φ (barC c) ∗ Φ (crdC c) ∗ (bigSep (Finset.Ico 0 14) fun s => Φ (sndC s c)) ∗ bigSep (Finset.Ico 0 14) fun s => Φ (rcvC s c)) := by
  have e (k : ℕ) (hk : k ≤ 16) : Set.InjOn (fun s : ℕ => (⟨(k + s) % 30, Nat.mod_lt _ (by decide)⟩ : Fin 30)) (Finset.Ico 0 14 : Finset ℕ) := by
    intro a ha b hb h
    have ha := (Finset.mem_Ico.mp (Finset.mem_coe.mp ha)).2
    have hb := (Finset.mem_Ico.mp (Finset.mem_coe.mp hb)).2
    have := congrArg Fin.val h
    dsimp only at this
    omega
  have hU : (Finset.univ : Finset (Fin 30)) = insert 0 (insert 1
      ((Finset.Ico 0 14).image (fun s : ℕ => (⟨(2 + s) % 30, Nat.mod_lt _ (by decide)⟩ : Fin 30))
        ∪ (Finset.Ico 0 14).image (fun s : ℕ => (⟨(16 + s) % 30, Nat.mod_lt _ (by decide)⟩ : Fin 30)))) := by decide
  rw [hU, bigSep_insert (by decide), bigSep_insert (by decide), bigSep_union (by decide), bigSep_image_of_injOn (e 2 (by decide)),
    bigSep_image_of_injOn (e 16 (by decide))]
  have h1 : (bigSep (Finset.Ico 0 14) fun s : ℕ => Φ (kcell (c, ⟨(2 + s) % 30, Nat.mod_lt _ (by decide)⟩))) = bigSep (Finset.Ico 0 14) fun s => Φ (sndC s c) :=
    bigSep_congr fun s hs => by
      have hs := (Finset.mem_Ico.mp hs).2
      interval_cases s <;> rfl
  have h2 : (bigSep (Finset.Ico 0 14) fun s : ℕ => Φ (kcell (c, ⟨(16 + s) % 30, Nat.mod_lt _ (by decide)⟩))) = bigSep (Finset.Ico 0 14) fun s => Φ (rcvC s c) :=
    bigSep_congr fun s hs => by
      have hs := (Finset.mem_Ico.mp hs).2
      interval_cases s <;> rfl
  rw [h1, h2]; rfl

/-- A family over keys and four numbers each, key by key. -/
theorem by_key {K : Type} [Fintype K] [DecidableEq K] (Φ : K → ℕ → sProp 𝕄) :
    bigSep ((Finset.univ : Finset K) ×ˢ Finset.range 4) (fun x => Φ x.1 x.2) = bigSep Finset.univ fun k => bigSep (Finset.range 4) (Φ k) := by
  have hr : Finset.range 4 = (Finset.univ : Finset (Fin 4)).map Fin.valEmbedding := by decide
  have hm : (Finset.univ : Finset K) ×ˢ Finset.range 4 = (Finset.univ : Finset (K × Fin 4)).map ((Function.Embedding.refl K).prodMap Fin.valEmbedding) := by
    ext x
    constructor
    · intro hx
      exact Finset.mem_map.mpr ⟨(x.1, ⟨x.2, Finset.mem_range.mp (Finset.mem_product.mp hx).2⟩), Finset.mem_univ _, rfl⟩
    · intro hx
      obtain ⟨y, -, rfl⟩ := Finset.mem_map.mp hx
      exact Finset.mem_product.mpr ⟨Finset.mem_univ _, Finset.mem_range.mpr y.2.isLt⟩
  rw [hm, bigSep_map, bigSep_univ_prod]
  refine bigSep_congr fun k _ => ?_
  rw [hr, bigSep_map]; rfl

/-- The writes that messages make: each its own number at its own slot. -/
theorem writes_split (Φ : Fin 4 → ℕ → sProp 𝕄) :
    (bigSep Finset.univ fun k : Fin 4 => bigSep (Finset.range 4) fun n => Φ k (n + 1)) ⊢ bigSep (Finset.Ico 0 14) fun s => Φ (kOf s) (wno s) := by
  have hI : Set.InjOn (fun s : ℕ => (kOf s, wno s - 1)) (Finset.Ico 0 14 : Finset ℕ) := by
    intro a ha b hb h
    have ha := (Finset.mem_Ico.mp (Finset.mem_coe.mp ha)).2
    have hb := (Finset.mem_Ico.mp (Finset.mem_coe.mp hb)).2
    have h1 := congrArg (fun x : Fin 4 × ℕ => x.1.val) h
    have h2 := congrArg (fun x : Fin 4 × ℕ => x.2) h
    dsimp only [kOf, wno] at h1 h2
    omega
  have hs : (Finset.Ico 0 14).image (fun s : ℕ => (kOf s, wno s - 1)) ⊆ (Finset.univ : Finset (Fin 4)) ×ˢ Finset.range 4 := by decide
  have h1 : (bigSep Finset.univ fun k : Fin 4 => bigSep (Finset.range 4) fun n => Φ k (n + 1))
      = bigSep ((Finset.univ : Finset (Fin 4)) ×ˢ Finset.range 4) fun x => Φ x.1 (x.2 + 1) :=
    (by_key fun k n => Φ k (n + 1)).symm
  rw [h1]
  have h2 : bigSep ((Finset.Ico 0 14).image (fun s : ℕ => (kOf s, wno s - 1))) (fun x : Fin 4 × ℕ => Φ x.1 (x.2 + 1))
      = bigSep (Finset.Ico 0 14) fun s => Φ (kOf s) (wno s) := bigSep_image_of_injOn hI _
  rw [← h2]
  exact bigSep_subset hs

/-! ## What the launch deals -/

/-- What device `c` keeps of its own. -/
def keeps (c : Dev nD) : sProp 𝕄 :=
  iprop((bigSep Finset.univ fun i : Fin 30 => atPos ER (kcell (c, i)) 0 ∅ 0) ∗ (bigSep (Finset.Ico 0 14) fun s => dutyTok ER (sndC s c) 0 0)
    ∗ bigSep Finset.univ fun k : Fin 4 => readerAt ES (c, k) 0)
/-- What it passes to its left neighbour, which sends to it; and to its right neighbour, which it sends to. -/
def toLeft (c : Dev nD) : sProp 𝕄 :=
  iprop(dutyTok ER (barC c) 0 1 ∗ (bigSep (Finset.Ico 0 14) fun s => dutyTok ER (rcvC s c) 0 0)
    ∗ bigSep (Finset.Ico 0 14) fun s => writeTok ES (c, kOf s) (wno s))
def toRight (c : Dev nD) : sProp 𝕄 :=
  iprop(dutyTok ER (barC c) 0 0 ∗ bigSep (Finset.Ico 0 10) fun j => dutyTok ER (crdC c) 0 j)

def toks (c : Dev nD) : sProp 𝕄 := bigSep Finset.univ fun i : Fin 30 => bigSep Finset.univ fun d : Fin 10 => dutyTok ER (kcell (c, i)) 0 d.val

def cellsKnow : sProp 𝕄 :=
  iprop((bigSep Finset.univ fun p : Dev nD × Fin 30 => knowC (Xs m) (Ws m) (kcell p)) ∗ bigSep Finset.univ fun k : Key => knowS (F := F) k)
instance cellsKnow_persistent : BI.Persistent (cellsKnow m) := by unfold cellsKnow; infer_instance

def G (c : Dev nD) : sProp 𝕄 :=
  iprop((bigSep Finset.univ fun i : Fin 30 => roundState ER (ringRd (Xs m) (Ws m)) (kcell (c, i)) 0)
    ∗ (bigSep Finset.univ fun i : Fin 30 => reached ER (kcell (c, i)) 0)
    ∗ (bigSep Finset.univ fun i : Fin 30 => atPos ER (kcell (c, i)) 0 ∅ 0) ∗ toks c
    ∗ (bigSep Finset.univ fun k : Fin 4 => knowS (F := F) (c, k)) ∗ (bigSep Finset.univ fun k : Fin 4 => readerAt ES (c, k) 0)
    ∗ bigSep Finset.univ fun k : Fin 4 => bigSep (Finset.range 4) fun n => writeTok ES (c, k) (n + 1))
def G' (c : Dev nD) : sProp 𝕄 := iprop(cellsKnow m ∗ keeps c ∗ toLeft (nxt c) ∗ toRight (prv c))

theorem toks_split (c : Dev nD) : toks (F := F) c
    ⊢ iprop(dutyTok ER (barC c) 0 0 ∗ dutyTok ER (barC c) 0 1 ∗ (bigSep (Finset.Ico 0 10) fun j => dutyTok ER (crdC c) 0 j)
      ∗ (bigSep (Finset.Ico 0 14) fun s => dutyTok ER (sndC s c) 0 0) ∗ bigSep (Finset.Ico 0 14) fun s => dutyTok ER (rcvC s c) 0 0) := by
  have h1 (g : GSem nD τ sig) : (bigSep Finset.univ fun d : Fin 10 => (dutyTok ER g 0 d.val : sProp 𝕄)) ⊢ dutyTok ER g 0 0 :=
    bigSep_elim (i := (0 : Fin 10)) (Finset.mem_univ _)
  have h2 (g : GSem nD τ sig) : (bigSep Finset.univ fun d : Fin 10 => (dutyTok ER g 0 d.val : sProp 𝕄)) ⊢ iprop(dutyTok ER g 0 0 ∗ dutyTok ER g 0 1) := by
    rw [bigSep_univ_at _ (0 : Fin 10)]
    exact sep_mono_right (bigSep_elim (i := (1 : Fin 10)) (by decide))
  have h3 (g : GSem nD τ sig) : (bigSep Finset.univ fun d : Fin 10 => (dutyTok ER g 0 d.val : sProp 𝕄)) ⊢ bigSep (Finset.Ico 0 10) fun j => dutyTok ER g 0 j := by
    refine Entails.of_eq ?_
    rw [← Finset.range_eq_Ico, ← Nat.Iio_eq_range, ← Fin.map_valEmbedding_univ, bigSep_map]; rfl
  have h4 (cell : ℕ → Dev nD → GSem nD τ sig) : (bigSep (Finset.Ico 0 14) fun s => bigSep Finset.univ fun d : Fin 10 => (dutyTok ER (cell s c) 0 d.val : sProp 𝕄))
      ⊢ bigSep (Finset.Ico 0 14) fun s => dutyTok ER (cell s c) 0 0 := bigSep_mono fun s _ => h1 _
  unfold toks
  rw [cells_split c fun g => bigSep Finset.univ fun d : Fin 10 => dutyTok ER g 0 d.val]
  iintro ⟨HB, HC, HS, HR⟩
  ihave HB := (h2 _) $$ HB
  icases HB with ⟨HB0, HB1⟩
  ihave HC := (h3 _) $$ HC
  ihave HS := (h4 sndC) $$ HS
  ihave HR := (h4 rcvC) $$ HR
  iframe HB0 HB1 HC HS HR

theorem fund_all : BI.own (EB (F := F) (initOf ringCells ringToks, Release.initSlots (Finset.univ : Finset Key) 4)) ⊢ |={Set.univ}=> bigSep Finset.univ (G m) := by
  have hX (Φ : GSem nD τ sig → sProp 𝕄) : bigSep ringCells Φ = bigSep Finset.univ fun c : Dev nD => bigSep Finset.univ fun k : Fin 30 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]
    exact bigSep_congr fun c _ => by rw [bigSep_univ_prod]; rfl
  have hR : (bigSep (Finset.univ : Finset Key) fun k => (readerAt ES k 0 : sProp 𝕄)) = bigSep Finset.univ fun c : Dev nD => bigSep Finset.univ fun k : Fin 4 => readerAt ES (c, k) 0 :=
    bigSep_univ_prod _
  have hW : (bigSep ((Finset.univ : Finset Key) ×ˢ Finset.range 4) fun x => (writeTok ES x.1 (x.2 + 1) : sProp 𝕄))
      = bigSep Finset.univ fun c : Dev nD => bigSep Finset.univ fun k : Fin 4 => bigSep (Finset.range 4) fun n => writeTok ES (c, k) (n + 1) := by
    rw [by_key fun (k : Key) n => writeTok ES k (n + 1), bigSep_univ_prod]
  have hK (ιs : Key → ℕ) : (bigSep (Finset.univ : Finset Key) fun k => slotInv ES (ιs k) k (slotAny (F := F) k.1 (keyM k.2) (keyB k.2)))
      ⊢ bigSep Finset.univ fun c : Dev nD => bigSep Finset.univ fun k : Fin 4 => knowS (F := F) (c, k) := by
    refine (bigSep_mono (Ψ := fun k : Key => knowS (F := F) k) fun k _ => ?_).trans (Entails.of_eq (bigSep_univ_prod _))
    show slotInv ES (ιs k) k (slotAny (F := F) k.1 (keyM k.2) (keyB k.2)) ⊢ knowS (F := F) k
    unfold knowS
    iintro H; iexists ιs k; iexact H
  iintro H
  ihave H := (own_pair_emb (EB (F := F)) (initOf ringCells ringToks) (Release.initSlots (Finset.univ : Finset Key) 4)) $$ H
  icases H with ⟨HR, HS⟩
  imod (Rounds.fund ER (ringRd (Xs m) (Ws m)) ringCells ringToks) $$ HR with ⟨Hst, Hr, Hat, Htok⟩
  imod (Release.slots_init ES (Finset.univ : Finset Key) 4 (fun k : Key => slotAny (F := F) k.1 (keyM k.2) (keyB k.2))) $$ HS with ⟨%ιs, %hι, Hsl, Hrd, Hwt⟩
  imodintro
  ihave Hst := (Entails.of_eq (hX fun g => roundState ER (ringRd (Xs m) (Ws m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  ihave Hrd := (Entails.of_eq hR) $$ Hrd
  ihave Hwt := (Entails.of_eq hW) $$ Hwt
  ihave Hsl := (hK ιs) $$ Hsl
  unfold G; simp only [bigSep_sep']
  iframe Hst Hr Hat Htok Hsl Hrd Hwt

/-! ## The semaphores -/

/-- The kernel's own semaphores: the credits and the twenty-eight of the copies. -/
abbrev osem (i : Fin 29) : SemLoc sig := csem i.succ

theorem ownSemFacts : Pipeline.OwnSemFacts cfg0.spec osem := by decide

theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(unscopedSems0 c ∗ Pipeline.ownSems0 (Ix := ℕ) (Name := ℕ) (U := UU) (Lvl := ℕ) (Val := Elt F) (τ := τ) osem c)
      = (bigSep Finset.univ fun i : Fin 30 => semVal (kcell (c, i)) 0 : sProp 𝕄) := by
  rw [unscopedSems0_eq, Fin.univ_succ, Finset.cons_eq_insert, bigSep_insert (by simp), bigSep_map]
  unfold Pipeline.ownSems0; rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop(((bigSep Finset.univ fun i : Fin 30 => knowC (Xs m) (Ws m) (kcell (c, i))) ∗ bigSep Finset.univ fun k : Fin 4 => knowS (F := F) (c, k))
          ∗ keeps c ∗ toLeft c ∗ toRight c) := by
  have halloc (g : GSem nD τ sig) : iprop(semVal g 0 ∗ roundState ER (ringRd (Xs m) (Ws m)) g 0 ∗ reached ER g 0) ⊢ iprop(|={Set.univ}=> knowC (Xs m) (Ws m) g) := by
    iintro ⟨Hv, Hs, Hr⟩
    imod ((Rounds.body_intro ER (ringRd (Xs m) (Ws m)) g).trans inv_alloc) $$ [Hv Hs] with ⟨%κ, HI⟩
    · isplitl [Hv] <;> iassumption
    imodintro
    unfold knowC
    iexists κ
    isplitl [HI] <;> iassumption
  unfold G keeps toLeft toRight
  iintro ⟨Hos, Hus, Hst, Hr, Hat, Htok, Hsl, Hrd, Hwt⟩
  ihave Hv := (Entails.of_eq (sems0_eq (F := F) c)) $$ [Hos Hus]
  · isplitl [Hus] <;> iassumption
  imod (show iprop((bigSep Finset.univ fun i : Fin 30 => semVal (kcell (c, i)) 0) ∗ (bigSep Finset.univ fun i : Fin 30 => roundState ER (ringRd (Xs m) (Ws m)) (kcell (c, i)) 0)
        ∗ bigSep Finset.univ fun i : Fin 30 => reached ER (kcell (c, i)) 0)
      ⊢ (|={Set.univ}=> bigSep Finset.univ fun i : Fin 30 => knowC (Xs m) (Ws m) (kcell (c, i)) : sProp 𝕄) from by
        rw [← bigSep_sep', ← bigSep_sep']
        exact (bigSep_mono fun i _ => halloc (kcell (c, i))).trans (bigSep_fupd _ _)) $$ [Hv Hst Hr] with HI
  · isplitl [Hv]; · iexact Hv
    isplitl [Hst] <;> iassumption
  ihave Htok := (toks_split c) $$ Htok
  icases Htok with ⟨T0, T1, TC, TS, TR⟩
  ihave Hwt := (writes_split fun k n => writeTok ES (c, k) n) $$ Hwt
  imodintro
  isplitl [HI Hsl]
  · isplitl [HI] <;> iassumption
  isplitl [Hat TS Hrd]
  · isplitl [Hat]; · iexact Hat
    isplitl [TS] <;> iassumption
  isplitl [T1 TR Hwt]
  · isplitl [T1]; · iexact T1
    isplitl [TR] <;> iassumption
  isplitl [T0] <;> iassumption

theorem regroup :
    (bigSep Finset.univ fun c : Dev nD => iprop(((bigSep Finset.univ fun i : Fin 30 => knowC (Xs m) (Ws m) (kcell (c, i))) ∗ bigSep Finset.univ fun k : Fin 4 => knowS (F := F) (c, k))
          ∗ keeps c ∗ toLeft c ∗ toRight c) : sProp 𝕄)
      ⊢ bigSep Finset.univ (G' m) := by
  simp only [bigSep_sep']
  rw [← bigSep_univ_prod (fun p : Dev nD × Fin 30 => knowC (Xs m) (Ws m) (kcell p)), ← bigSep_univ_prod (fun k : Dev nD × Fin 4 => knowS (F := F) k),
    bigSep_univ_equiv ring (fun c : Dev nD => (toLeft c : sProp 𝕄)), bigSep_univ_equiv ring.symm (fun c : Dev nD => (toRight c : sProp 𝕄))]
  iintro ⟨⟨#HI, #HS⟩, Hk, Hl, Hr⟩
  iapply (bigSep_with_persistent (R := cellsKnow m) (Φ := fun c : Dev nD => iprop(keeps c ∗ toLeft (nxt c) ∗ toRight (prv c)))
    fun c _ => show _ ⊢ G' m c by unfold G'; iintro H; iexact H)
  isplitr
  · unfold cellsKnow; isplitr <;> iassumption
  simp only [bigSep_sep']
  isplitl [Hk]; · iexact Hk
  isplitl [Hl]; · iexact Hl
  iexact Hr

/-- The launch's global step: every device's cells opened, the tokens passed around the ring. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits that a device starts with -/

theorem creds (c : Dev nD) :
    (Pipeline.launchCred (fun d => Ow d 0) c : sProp 𝕄)
      ⊢ iprop(cred (tallyAt (barC c) 0 2) ∗ (bigSep (Finset.Ico 0 14) fun s => cred (tallyAt (rcvC s c) 0 N)) ∗ bigSep (Finset.Ico 0 10) fun j => cred (tallyAt (crdC c) j 1)) := by
  have iR : Set.InjOn posR (Finset.Ico 0 14 : Finset ℕ) := by
    intro a ha b hb h
    have ha := (Finset.mem_Ico.mp (Finset.mem_coe.mp ha)).2
    have hb := (Finset.mem_Ico.mp (Finset.mem_coe.mp hb)).2
    unfold posR at h; split_ifs at h <;> omega
  have iC : Set.InjOn posC (Finset.Ico 0 10 : Finset ℕ) := by
    intro a ha b hb h
    have ha := (Finset.mem_Ico.mp (Finset.mem_coe.mp ha)).2
    have hb := (Finset.mem_Ico.mp (Finset.mem_coe.mp hb)).2
    unfold posC at h; split_ifs at h <;> omega
  have hU : Finset.Ico 0 26 = insert 0 (insert 1 ((Finset.Ico 0 14).image posR ∪ (Finset.Ico 0 10).image posC)) := by decide
  have h0 : (Pipeline.launchCred (fun d => owe d 0) c : sProp 𝕄) ⊢ cred (tallyAt (barC c) 0 1) :=
    Pipeline.launchCred_tallyAt (.reg barS) prv nxt prv_nxt nxt_prv 0 1 c
  have h1 : (Pipeline.launchCred (fun d => owe d 1) c : sProp 𝕄) ⊢ cred (tallyAt (barC c) 0 1) :=
    Pipeline.launchCred_tallyAt (.reg barS) nxt prv nxt_prv prv_nxt 0 1 c
  have hR (s : ℕ) (hs : s < 14) : (Pipeline.launchCred (fun d => owe d (posR s)) c : sProp 𝕄) ⊢ cred (tallyAt (rcvC s c) 0 N) := by
    rw [show (fun d => owe d (posR s)) = fun d => tallyAt (rcvC s (nxt d)) 0 N from funext fun d => by rw [owe, ev_R d s hs]]
    exact Pipeline.launchCred_tallyAt (.dma (rcvS s)) nxt prv nxt_prv prv_nxt 0 N c
  have hC (j : ℕ) (hj : j < 10) : (Pipeline.launchCred (fun d => owe d (posC j)) c : sProp 𝕄) ⊢ cred (tallyAt (crdC c) j 1) := by
    rw [show (fun d => owe d (posC j)) = fun d => tallyAt (crdC (prv d)) j 1 from funext fun d => by rw [owe, ev_C d j hj]]
    exact Pipeline.launchCred_tallyAt (.reg crdS) prv nxt prv_nxt nxt_prv j 1 c
  have hsum : (Pipeline.launchCred (fun d => Ow d 0) c : sProp 𝕄) = bigSep (Finset.Ico 0 26) fun k => Pipeline.launchCred (fun d => owe d k) c :=
    Pipeline.launchCred_sum (Finset.Ico 0 26) (fun k d => owe d k) c
  have hRs : (bigSep (Finset.Ico 0 14) fun s => (Pipeline.launchCred (fun d => owe d (posR s)) c : sProp 𝕄)) ⊢ bigSep (Finset.Ico 0 14) fun s => cred (tallyAt (rcvC s c) 0 N) :=
    bigSep_mono fun s hs => hR s (Finset.mem_Ico.mp hs).2
  have hCs : (bigSep (Finset.Ico 0 10) fun j => (Pipeline.launchCred (fun d => owe d (posC j)) c : sProp 𝕄)) ⊢ bigSep (Finset.Ico 0 10) fun j => cred (tallyAt (crdC c) j 1) :=
    bigSep_mono fun j hj => hC j (Finset.mem_Ico.mp hj).2
  have hRC : (bigSep ((Finset.Ico 0 14).image posR ∪ (Finset.Ico 0 10).image posC) fun k => (Pipeline.launchCred (fun d => owe d k) c : sProp 𝕄))
      = iprop((bigSep (Finset.Ico 0 14) fun s => Pipeline.launchCred (fun d => owe d (posR s)) c) ∗ bigSep (Finset.Ico 0 10) fun j => Pipeline.launchCred (fun d => owe d (posC j)) c) := by
    rw [bigSep_union (by decide), bigSep_image_of_injOn iR, bigSep_image_of_injOn iC]; rfl
  rw [hsum, hU, bigSep_cons (by decide), bigSep_cons (by decide), hRC]
  iintro ⟨H0, H1, HR, HC⟩
  ihave H0 := h0 $$ H0
  ihave H1 := h1 $$ H1
  ihave HR := hRs $$ HR
  ihave HC := hCs $$ HC
  isplitl [H0 H1]
  · rw [show (2 : ℕ) = 1 + 1 from rfl, ← tallyAt_add]
    iapply (cred_add _ _).2
    isplitl [H0] <;> iassumption
  isplitl [HR] <;> iassumption

theorem entry_intro (c : Dev nD) :
    iprop((keeps c ∗ toLeft (nxt c) ∗ toRight (prv c)) ∗ Pipeline.launchCred (fun d => Ow d 0) c) ⊢ entry (F := F) c := by
  have ht : (bigSep (Finset.Ico 0 14) (tick (F := F) c))
      = iprop((bigSep (Finset.Ico 0 14) fun s => atPos ER (sndC s c) 0 ∅ 0) ∗ (bigSep (Finset.Ico 0 14) fun s => atPos ER (rcvC s c) 0 ∅ 0)
        ∗ (bigSep (Finset.Ico 0 14) fun s => dutyTok ER (sndC s c) 0 0) ∗ (bigSep (Finset.Ico 0 14) fun s => dutyTok ER (rcvC s (nxt c)) 0 0)
        ∗ (bigSep (Finset.Ico 0 14) fun s => cred (tallyAt (rcvC s c) 0 N)) ∗ bigSep (Finset.Ico 0 14) fun s => writeTok ES (nxt c, kOf s) (wno s)) := by
    unfold tick; simp only [bigSep_sep']
  unfold keeps toLeft toRight entry
  rw [cells_split c fun g => atPos ER g 0 ∅ 0, ht]
  iintro ⟨⟨⟨⟨AB, AC, AS, AR⟩, TS, Hrd⟩, ⟨T1, TR, Hw⟩, ⟨T0, TC⟩⟩, Hcr⟩
  ihave Hcr := (creds (F := F) c) $$ Hcr
  icases Hcr with ⟨CB, CR, CC⟩
  isplitl [AB T0 T1 CB]
  · iframe AB T0 T1 CB
  isplitl [AC CC TC]
  · iframe AC CC TC
  isplitl [AS AR TS TR CR Hw]
  · iframe AS AR TS TR CR Hw
  iexact Hrd

end Cert.Ring

end
-- ==== Proof.Run.lean ====
/-
The run of the whole program: every device ends with its arguments unchanged, its result computed and every semaphore
at zero.
-/
module

public import proofs.«01_k».proof.Proof.Launch
public import Idealize.ShloMosaic.Lib.Pipeline.CollectiveSegs
public import Idealize.ShloMosaic.Lib.Pipeline.Value

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellsWaits)
open Idealize.ShloMosaic.Release (USlots released readerAt writeTok slotInv)

variable {F : FTy → Type} [FloatOps F]

local notation "𝕄" => MT nD τ sig ℕ (Elt F) ℕ UU ℕ

variable (m : (ℓ : Loc nD τ sig) → Buf (Elt F) ℓ) (ρ : Dev nD → PrngReg)

/-! ## The region's proof data -/

/-- What device `c`'s body starts from, and what it leaves. -/
def start (c : Dev nD) : sProp 𝕄 := iprop(know (Xs m) (Ws m) ∗ entry c)
def scrs (c : Dev nD) : sProp 𝕄 := iprop(scr c stM ∗ scr c rsM ∗ scr c agM)
def Φ₀ (c : Dev nD) : sProp 𝕄 := iprop(start m c ∗ scrs c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => Xs m c
    | ⟨1, _⟩ => Ws m c
    | ⟨2, _⟩ => res m c
  Φ t := match t with
    | ⟨0, _⟩ => Φ₀ m c
    | ⟨_ + 1, _⟩ => exitP c
  q _ := fullShare
  owed t := match t with
    | ⟨0, _⟩ => Ow c 0
    | ⟨_ + 1, _⟩ => 0

theorem scrs_eq (c : Dev nD) : (Pipeline.scopedRest (Ix := ℕ) (Name := ℕ) (U := UU) (Lvl := ℕ) (Val := Elt F) cfg0.spec c : sProp 𝕄) = scrs c := by
  refine (scopedRest0_eq c).trans ?_
  unfold scrs scr Release.slot
  simp only [Memref.view_whole, View.set_whole]

/-! ## The body -/

theorem owns_eq (c : Dev nD) (b : Ref sig .tc) (f : b.ty.Contents (Elt F)) :
    (owns (Ix := ℕ) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

def bodyPre (c : Dev nD) : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(exitP c ∗ (dats m ρ 0 c).owesAt 0 t0_0.succ ∗ stg c cc0_stg0_0 (Xs m c) ∗ stg c cc0_stg1_0 (Ws m c) ∗ stg c cc0_stg2_0 (res m c))

theorem sound_body (c : Dev nD) : bodyPre m ρ c ⊢ WP c body (fun _ => bodyPost m ρ c) := by
  unfold bodyPre Φ₀ start scrs
  iintro ⟨⟨⟨#HK, He⟩, Hscr⟩, Ho, ⟨%d0, %g0, %h0, Hx⟩, ⟨%d1, %g1, %h1, Hw⟩, ⟨%d2, %g2, %h2, Hout⟩⟩
  have hx : g0 = Xs m c := by rw [h0]; unfold Dat.before; rw [if_pos (fetch0_0 t0_0)]; rfl
  have hw : g1 = Ws m c := by rw [h1]; unfold Dat.before; rw [if_pos (fetch0_1 t0_0)]; rfl
  subst hx hw
  unfold Dat.owesAt Pipeline.owesWithin
  icases Ho with ⟨%W, %hW, HO⟩
  rw [show (dats m ρ 0 c).owed t0_0.castSucc = Ow c 0 from rfl, asm_surj g2]
  iapply (wp_body (Xs m) (Ws m) c _ _) $$ [He HO Hscr Hx Hw Hout]
  · isplitr; · iexact HK
    isplitl [He]; · iexact He
    isplitl [HO]; · unfold own; iexists W; iexact HO
    isplitl [Hscr]; · iexact Hscr
    isplitl [Hx]; · unfold xP; iexact Hx
    isplitl [Hw]; · unfold wP; iexact Hw
    unfold outP; iexact Hout
  iintro ⟨HO, ⟨Hx, Hw, Hout⟩, Hex⟩
  unfold bodyPost Dat.owesAt Pipeline.owesWithin own xP wP outP
  rw [Ow_end, show (dats m ρ 0 c).owed t0_0.succ = 0 from rfl]
  icases HO with ⟨%W', HO⟩
  isplitl [Hex]; · iexact Hex
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

/-- The launch's obligation for the body of device `c`. -/
theorem body_obligation (c : Dev nD) : BodyObligation (dats (F := F) m ρ 0 c) (defs₀ (F := F)) 𝒱₀ 0 Set.univ := fun t => by
  rw [fin_N0 t]
  rw [bigSep_W0, bigSep_W0]
  simp only [owns_eq]
  show bodyPre m ρ c ⊢ WP c (cc0_body (F := F) xM (wholeOf _) wM (wholeOf _) oM (wholeOf _) stM (wholeOf _) rsM (wholeOf _) agM (wholeOf _)
      cc0_scratch3 cc0_scratch4 cc0_scratch5) (fun _ => bodyPost m ρ c)
  rw [body_eq]
  exact sound_body m ρ c

/-! ## The theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Ow d 0) c ∗ prngReg c (ρ c) ∗ G' m c)
      ⊢ |={Set.univ}=> iprop(start m c ∗ emp) := by
  unfold G' start cellsKnow know
  iintro ⟨-, Hlev, Hcr, -, ⟨HC, HS⟩, Hlin⟩
  imodintro
  isplitl
  · isplitl [HC HS Hlev]
    · isplitl [HC]; · iexact HC
      isplitl [HS] <;> iassumption
    iapply (entry_intro (F := F) c)
    isplitl [Hlin] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scrs_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  have ht : (bigSep (Finset.range 14) (tock (F := F) c))
      = iprop((bigSep (Finset.Ico 0 14) fun s => semVal (sndC s c) 0) ∗ bigSep (Finset.Ico 0 14) fun s => semVal (rcvC s c) 0) := by
    unfold tock; rw [bigSep_sep', Finset.range_eq_Ico]
  have hs : iprop(semVal (barC c) 0 ∗ semVal (crdC c) 0 ∗ bigSep (Finset.range 14) (tock (F := F) c))
      ⊢ iprop(unscopedSems0 c ∗ Pipeline.ownSems0 (Ix := ℕ) (Name := ℕ) (U := UU) (Lvl := ℕ) (Val := Elt F) (τ := τ) osem c) := by
    rw [sems0_eq, cells_split c fun g => semVal g 0, ht]
  rw [show (dats m ρ 0 c).Φ (Fin.last cfg0.N) = exitP c from rfl, scrs_eq]
  unfold exitP scrs
  iintro ⟨Hr, Hs⟩
  ihave Hs := hs $$ Hs
  icases Hs with ⟨Hu, Ho⟩
  isplitl [Hu]; · iexact Hu
  isplitl [Ho] <;> iassumption

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayOwe c _ 0 0 (by decide) (by fin_cases w <;> fin_cases s <;> decide)
    · show _ ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with every semaphore at zero, on eight devices, every fair execution of the program ends; each device's
    arrays are then as computed and every semaphore is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => Ow d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = m ((c : Thread nD τ).loc main_arg0) := (dats m ρ 0 c).arrAt_in (0 : Fin 3) rfl _
theorem finalA_w (c : Dev nD) : finalA m ρ c (1 : Fin 3) = m ((c : Thread nD τ).loc main_arg1) := (dats m ρ 0 c).arrAt_in (1 : Fin 3) rfl _

/-- The result's one block is the whole array. -/
theorem blk_emb_o (i : S4096x2048.Idx) : (win0_2.blk (0 : Fin 1)).view.emb i = i := by
  funext k; apply Fin.ext
  exact Pipeline.Window.rect_emb_val_of_index_zero win0_2 (0 : Fin 1) k (by fin_cases k <;> rfl) i

theorem finalA_o (c : Dev nD) : finalA m ρ c (2 : Fin 3) = res m c := by
  have hw : ((cfg0.win 2).blk t0_0).view.read (Elt F) (finalA m ρ c (2 : Fin 3)) = (dats m ρ 0 c).flushed 2 t0_0 := by
    unfold finalA
    rw [show cfg0.N = t0_0.val + 1 from rfl, (dats m ρ 0 c).arrAt_succ (2 : Fin 3) t0_0, flush0_2, if_pos rfl]
    exact View.read_write_univ _ _
  refine Eq.trans ?_ (hw.trans rfl)
  funext i
  exact congrArg (finalA m ρ c (2 : Fin 3)) (blk_emb_o i).symm

/-- Each device's arguments are as they were, its result is `res`, and every semaphore is at zero. -/
theorem run : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = res m c) ∧ r.2.sem = fun _ => 0) :=
  (θ_run defs _ _).mono (fun r h => ⟨fun c => ⟨(h.1 c (0 : Fin 3)).trans (finalA_x m ρ c), (h.1 c (1 : Fin 3)).trans (finalA_w m ρ c),
    (h.1 c (2 : Fin 3)).trans (finalA_o m ρ c)⟩, h.2⟩) (run_main m ρ)

/-- The frame: each device's arguments are as they were, and every semaphore is at zero. -/
theorem frame : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h.1 c).1, (h.1 c).2.1⟩, h.2⟩) (run m ρ)

end Cert.Ring

end
-- ==== Proof.Value.lean ====
/-
The value over the extended reals: every row block of every device's result is the sum of the eight devices' products
for it, cut off below at zero; with the operands the blocks of whole arrays, that is the reference's result.
-/
module

public import proofs.«01_k».proof.Proof.Run
public import Idealize.ShloMosaic.Lib.Pointwise
public import Idealize.ShloMosaic.Lib.Pipeline.ValueKit.Acc
public import Idealize.ShloMosaic.Lib.Layout
public import proofs.«01_k».proof.Proof.Gen.ReferenceIdeal.Run

@[expose] public section

set_option maxRecDepth 16384

noncomputable section

namespace Cert.Ring

open Cert.KernelIdeal Cert.KernelIdeal.Gen
open Idealize.ShloMosaic Idealize.ShloMosaic.TcCoe
open Idealize.SL.Sem

/-! ## The payloads at an index -/

theorem pay3_apply (w : Vec Ideal S512x2048 .bf16) (x : Vec Ideal S512x512 .bf16) (p : Fin 512) (q : Fin 2048) :
    k0_pay3 w x (ix2 p q) = ∑ k : Fin 512, x (ix2 p k) * w (ix2 k q) := by
  pointwise [k0_pay3, k0_pay2]
theorem pay11_apply (v : Vec Ideal S512x2048 .f32) (p : Fin 512) (q : Fin 2048) : k0_pay11 v (ix3 0 p q) = v (ix2 p q) := by
  pointwise [k0_pay11]
theorem pay12_apply (v : Vec Ideal S512x2048 .f32) (u : Vec Ideal S1x512x2048 .bf16) (p : Fin 512) (q : Fin 2048) :
    k0_pay12 v u (ix2 p q) = v (ix2 p q) + u (ix3 0 p q) := by
  pointwise [k0_pay12]
theorem pay27_apply (v : Vec Ideal S512x2048 .f32) (p : Fin 512) (q : Fin 2048) : k0_pay27 v (ix2 p q) = max (v (ix2 p q)) 0 := by
  pointwise [k0_pay27]
theorem pay29_apply (v : Vec Ideal S512x2048 .f32) (p : Fin 512) (q : Fin 2048) :
    k0_pay29 (k0_pay28 v) (ix3 0 p q) = max (v (ix2 p q)) 0 := by
  pointwise [k0_pay29, k0_pay28, k0_pay27]
theorem pay30_apply (u : Vec Ideal S1x512x2048 .bf16) (p : Fin 512) (q : Fin 2048) : k0_pay30 u (ix2 p q) = u (ix3 0 p q) := by
  pointwise [k0_pay30]

/-! ## The sums that travel -/

section Sums

variable (X : Dev nD → Vec Ideal S4096x512 .bf16) (Wt : Dev nD → Vec Ideal S512x2048 .bf16) (p : Fin 512) (q : Fin 2048)

theorem msgRS_sum (h : ℕ) (c : Dev nD) :
    msgRS X Wt h c (ix3 0 p q) = ∑ j ∈ Finset.range (h + 1), prod X Wt (back c j) (back c h) (ix2 p q) := by
  induction h generalizing c with
  | zero => rw [msgRS, pay11_apply, Finset.sum_range_one, back_zero]
  | succ h ih =>
    rw [msgRS, pay11_apply, pay12_apply, ih, Finset.sum_range_succ' _ (h + 1), back_zero, add_comm]
    simp only [back_prv]

/-- The eight places before a device are all devices. -/
theorem sum_back (c : Dev nD) (f : Dev nD → EReal) : (∑ j ∈ Finset.range 8, f (back c j)) = ∑ d, f d := by
  rw [show (Finset.univ : Finset (Dev nD)) = (Finset.range 8).image (back c) by revert c; decide, Finset.sum_image]
  intro a ha b hb he
  exact back_inj c a b (Finset.mem_range.mp ha) (Finset.mem_range.mp hb) he

theorem outRS_own (c : Dev nD) : outRS X Wt c 7 (nxt c) (ix2 p q) = ∑ d, prod X Wt d (nxt c) (ix2 p q) := by
  rw [← sum_back c fun d => prod X Wt d (nxt c) (ix2 p q), Finset.sum_range_succ', back_zero, add_comm, ← back_seven, outRS,
    Function.update_self, pay12_apply, msgRS_sum]
  simp only [back_prv]

/-- Every row block of every device's result. -/
theorem outAG_sum (c : Dev nD) (b : Fin 8) : outAG X Wt c 7 b (ix2 p q) = max (∑ d, prod X Wt d b (ix2 p q)) 0 := by
  rw [outAG_final]
  split
  · next h => subst h; unfold red; rw [pay27_apply, outRS_own]
  · unfold note; rw [pay30_apply, pay29_apply, outRS_own, nxt_prv]

/-- A device's product at an index. -/
theorem prod_apply (d : Dev nD) (b : Fin 8) (a : Fin 4096) (ha : a.val = 512 * b.val + p.val) :
    prod X Wt d b (ix2 p q) = ∑ k : Fin 512, X d (ix2 a k) * Wt d (ix2 k q) := by
  unfold prod
  rw [pay3_apply]
  refine Finset.sum_congr rfl fun k _ => congrArg (· * _) ?_
  show X d ((xr b).emb (ix2 p k)) = _
  congr 1
  funext z; apply Fin.ext
  fin_cases z
  · show 512 * b.val + 1 * p.val = a.val
    omega
  · show 0 + 1 * k.val = k.val
    omega

end Sums

/-! ## The reference's value -/

/-- The reference's result: the product of the whole operands, cut off below at zero. -/
def whole (x : Vec Ideal Cert.ReferenceIdeal.S4096x4096 .bf16) (w : Vec Ideal S4096x2048 .bf16) : Vec Ideal S4096x2048 .f32 :=
  maximumf (F := Ideal) (s := Cert.ReferenceIdeal.S4096x2048) (φ := .f32) (Host.dotGeneral Cert.ReferenceIdeal.dot_S4096x4096_S4096x2048_S4096x2048_1_0_0_1_n_n none
      (extf .f32 x Cert.ReferenceIdeal.Facts₀.bitsLt_bf16_f32) (extf .f32 w Cert.ReferenceIdeal.Facts₀.bitsLt_bf16_f32))
    (broadcastInDim Cert.ReferenceIdeal.S4096x2048 ![] Cert.ReferenceIdeal.Facts₀.bcast_S_S4096x2048 (constant Cert.ReferenceIdeal.S_ .f32 0x00000000#32))

theorem whole_apply (x : Vec Ideal Cert.ReferenceIdeal.S4096x4096 .bf16) (w : Vec Ideal S4096x2048 .bf16) (a : Fin 4096) (q : Fin 2048) :
    whole x w (ix2 a q) = max (∑ K : Fin 4096, x (ix2 a K) * w (ix2 K q)) 0 := by
  pointwise [whole]

/-- With every device's operands its blocks of the whole ones, the kernel's result is the reference's. -/
theorem asm_whole (X : Dev nD → Vec Ideal S4096x512 .bf16) (Wt : Dev nD → Vec Ideal S512x2048 .bf16)
    (x : Vec Ideal Cert.ReferenceIdeal.S4096x4096 .bf16) (w : Vec Ideal S4096x2048 .bf16)
    (hX : ∀ d, X d = Layout.block ⟨2, ![4096, 512]⟩ ⟨2, ![4096, 4096]⟩ 1 8 d x) (hW : ∀ d, Wt d = Layout.block ⟨2, ![512, 2048]⟩ ⟨2, ![4096, 2048]⟩ 0 8 d w)
    (c : Dev nD) : asm (outAG X Wt c 7) = whole x w := by
  funext i
  obtain ⟨a, q, rfl⟩ : ∃ (a : Fin 4096) (q : Fin 2048), i = ix2 a q := ⟨i 0, i 1, by funext z; fin_cases z <;> rfl⟩
  have hb : inBlk (ix2 a q) = ix2 (⟨a.val % 512, Nat.mod_lt _ (by norm_num)⟩ : Fin 512) q := by funext z; fin_cases z <;> rfl
  rw [whole_apply]
  unfold asm
  rw [hb, outAG_sum]
  congr 1
  rw [Finset.sum_congr rfl fun d _ => prod_apply X Wt _ q d (inRow (ix2 a q)) a (by
    show a.val = 512 * (a.val / 512) + a.val % 512
    omega)]
  refine Fin.sum_mul_add_congr fun d k hl => ?_
  rw [hX, hW, Layout.block_apply, Layout.block_apply]
  congr 2
  · funext z; apply Fin.ext; rw [Layout.Tiles.idx_val]; fin_cases z <;> rfl
  · funext z; apply Fin.ext; rw [Layout.Tiles.idx_val]; fin_cases z <;> rfl

/-! ## The staged operands are the arguments -/

theorem blk_emb_x (i : S4096x512.Idx) : (win0_0.blk (0 : Fin 1)).view.emb i = i := by
  funext k; apply Fin.ext
  exact Pipeline.Window.rect_emb_val_of_index_zero win0_0 (0 : Fin 1) k (by fin_cases k <;> rfl) i
theorem blk_emb_w (i : S512x2048.Idx) : (win0_1.blk (0 : Fin 1)).view.emb i = i := by
  funext k; apply Fin.ext
  exact Pipeline.Window.rect_emb_val_of_index_zero win0_1 (0 : Fin 1) k (by fin_cases k <;> rfl) i

theorem Xs_eq (m : (ℓ : Loc nD τ sig) → Buf (Elt Ideal) ℓ) (c : Dev nD) : Xs m c = m ((c.tc : Thread nD τ).loc main_arg0) :=
  funext fun i => congrArg (m ((c.tc : Thread nD τ).loc main_arg0)) (blk_emb_x i)
theorem Ws_eq (m : (ℓ : Loc nD τ sig) → Buf (Elt Ideal) ℓ) (c : Dev nD) : Ws m c = m ((c.tc : Thread nD τ).loc main_arg1) :=
  funext fun i => congrArg (m ((c.tc : Thread nD τ).loc main_arg1)) (blk_emb_w i)

theorem res_whole (m : (ℓ : Loc nD τ sig) → Buf (Elt Ideal) ℓ)
    (x : Vec Ideal Cert.ReferenceIdeal.S4096x4096 .bf16) (w : Vec Ideal S4096x2048 .bf16)
    (h : ∀ c : Dev nD, m ((c.tc : Thread nD τ).loc main_arg0) = Layout.block ⟨2, ![4096, 512]⟩ ⟨2, ![4096, 4096]⟩ 1 8 c x
      ∧ m ((c.tc : Thread nD τ).loc main_arg1) = Layout.block ⟨2, ![512, 2048]⟩ ⟨2, ![4096, 2048]⟩ 0 8 c w)
    (c : Dev nD) : res m c = whole x w :=
  asm_whole (Xs m) (Ws m) x w (fun d => (Xs_eq m d).trans (h d).1) (fun d => (Ws_eq m d).trans (h d).2) c

end Cert.Ring

end
-- ==== Proof.Same.lean ====
/-
The kernel and its idealization are printed from one text, so the run of the one is the run of the other.
-/
module

public import proofs.«01_k».proof.Proof.Run
public import proofs.«01_k».proof.Proof.Gen.Kernel

@[expose] public section

set_option maxRecDepth 16384

noncomputable section

namespace Cert.Ring

open Idealize.ShloMosaic Idealize.ShloMosaic.TcCoe Idealize.SL.Sem

variable {F : FTy → Type} [FloatOps F]

/-- The two body tables are the same. -/
theorem bodies_same [Cert.Kernel.Facts] [Cert.KernelIdeal.Facts] : Cert.Kernel.defs₀ (F := F) = Cert.KernelIdeal.defs₀ (F := F) := by
  funext p l a
  rcases p with _ | _ | _
  · unfold Cert.Kernel.defs₀ Cert.KernelIdeal.defs₀
    rw [Defs.onTc_tc, Defs.onTc_tc]
    match l, a with
    | 0, (t, s) => exact rfl
  · rfl
  · rfl

theorem defs_same [Cert.Kernel.Facts] [Cert.KernelIdeal.Facts] : Cert.Kernel.defs (F := F) = Cert.KernelIdeal.defs (F := F) :=
  congrArg (Pipeline.defs (Cert.KernelIdeal.pcfgs (F := F))) bodies_same

/-- The frame of the kernel as it was printed. -/
theorem frame_printed (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same]
  exact frame m ρ

end Cert.Ring

end
-- ==== Proof.lean ====
/-
The claims: the frames of the kernel, of its idealization and of the reference, that the idealization changes no
operation, and that every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel's frame, over the floats' bits. -/
theorem frame_kernel : Cert.quiescent_Kernel := fun m ρ _ => Cert.Ring.frame_printed (F := Bits) m ρ

/-- The idealized kernel's frame: the same run over the extended reals. -/
theorem frame_ideal : Cert.quiescent_KernelIdeal := fun m ρ _ => Cert.Ring.frame (F := Ideal) m ρ

/-- The reference's frame: a straight host program without semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's. -/
theorem value : Cert.algebraic_KernelIdeal_ReferenceIdeal := fun m ρ m' ρ' _ hagree =>
  ⟨Cert.Ring.whole _ _,
    (θ_run Cert.KernelIdeal.defs _ _).mono
      (fun _ h c => ⟨(h.1 c).2.2.trans (Cert.Ring.res_whole m _ _ hagree c), (h.1 c).1, (h.1 c).2.1⟩) (Cert.Ring.run (F := Ideal) m ρ),
    (θ_run Cert.ReferenceIdeal.defs _ _).mono (fun _ h => h 0) (Cert.ReferenceIdeal.Value.run (F := Ideal) m' ρ')⟩

/-- All the claims. -/
theorem claim : Cert.Claim := ⟨Cert.Kernel.Gen.facts, Cert.KernelIdeal.Gen.facts, Cert.ReferenceIdeal.Gen.facts,
  frame_kernel, frame_ideal, frame_reference, trivial, value⟩

end Cert.Proof

end
